-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "step" .f32 0x374910A4#32 ((878453 / 73299656704 : ℝ) : EReal)

def algebraic_KernelIdeal_ReferenceIdeal_on_all_but_weights [hKernelIdeal : Cert.KernelIdeal.Facts] [hReferenceIdeal : Cert.ReferenceIdeal.Facts] [hOn_all_but_weights : Cert.On_all_but_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_cst_2)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16, 524288]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v6) i = v0 c i)
          ∧ (∀ i : (⟨1, ![65536]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v7) i = v1 c i)
          ∧ (∀ i : (⟨2, ![65536, 8]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.KernelIdeal.nD Cert.KernelIdeal.τ).loc Cert.KernelIdeal.main_v8) i = v2 c i)
          ∧ (∀ i : (⟨0, ![]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.KernelIdeal.nD Cert.KernelIdeal.τ).loc Cert.KernelIdeal.main_cst_2) i = v3 c i)
          ∧ (∀ i : (⟨1, ![65536]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 i = 1#1 → r.2.mem ((c.tc : Thread Cert.KernelIdeal.nD Cert.KernelIdeal.τ).loc Cert.KernelIdeal.main_v9) i = v4 c i)
          ∧ (∀ i : (⟨2, ![65536, 8]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2 i = 1#1 → r.2.mem ((c.tc : Thread Cert.KernelIdeal.nD Cert.KernelIdeal.τ).loc Cert.KernelIdeal.main_v10) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16, 524288]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v25) i = v0 c i)
          ∧ (∀ i : (⟨1, ![65536]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v3) i = v1 c i)
          ∧ (∀ i : (⟨2, ![65536, 8]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 i = 1#1 → r.2.mem ((c.tc : Thread Cert.ReferenceIdeal.nD Cert.ReferenceIdeal.τ).loc Cert.ReferenceIdeal.main_v21) i = v2 c i)
          ∧ (∀ i : (⟨0, ![]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 i = 1#1 → r.2.mem ((c.tc : Thread Cert.ReferenceIdeal.nD Cert.ReferenceIdeal.τ).loc Cert.ReferenceIdeal.main_cst_11) i = v3 c i)
          ∧ (∀ i : (⟨1, ![65536]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 i = 1#1 → r.2.mem ((c.tc : Thread Cert.ReferenceIdeal.nD Cert.ReferenceIdeal.τ).loc Cert.ReferenceIdeal.main_v22) i = v4 c i)
          ∧ (∀ i : (⟨2, ![65536, 8]⟩ : Shape).Idx, (Cert.On_all_but_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2 i = 1#1 → r.2.mem ((c.tc : Thread Cert.ReferenceIdeal.nD Cert.ReferenceIdeal.τ).loc Cert.ReferenceIdeal.main_v32) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_weights_near [hKernelIdeal : Cert.KernelIdeal.Facts] [hPost_weights_near : Cert.Post_weights_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_weights_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v6)) (r.2.mem ((c.tc : Thread Cert.KernelIdeal.nD Cert.KernelIdeal.τ).loc Cert.KernelIdeal.main_v7)) (r.2.mem ((c.tc : Thread Cert.KernelIdeal.nD Cert.KernelIdeal.τ).loc Cert.KernelIdeal.main_v8)) (r.2.mem ((c.tc : Thread Cert.KernelIdeal.nD Cert.KernelIdeal.τ).loc Cert.KernelIdeal.main_cst_2)) (r.2.mem ((c.tc : Thread Cert.KernelIdeal.nD Cert.KernelIdeal.τ).loc Cert.KernelIdeal.main_v9)) (r.2.mem ((c.tc : Thread Cert.KernelIdeal.nD Cert.KernelIdeal.τ).loc Cert.KernelIdeal.main_v10))) = (fun _ => 1#1))

def Claim : Prop :=
  ∃ (hKernel : Cert.Kernel.Facts) (hKernelIdeal : Cert.KernelIdeal.Facts) (hReferenceIdeal : Cert.ReferenceIdeal.Facts) (hPost_weights_near : Cert.Post_weights_near.Facts) (hOn_all_but_weights : Cert.On_all_but_weights.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_all_but_weights (hKernelIdeal := hKernelIdeal) (hReferenceIdeal := hReferenceIdeal) (hOn_all_but_weights := hOn_all_but_weights)
    ∧ holds_KernelIdeal_weights_near (hKernelIdeal := hKernelIdeal) (hPost_weights_near := hPost_weights_near)
-- ==== On_all_but_weights.lean ====
abbrev S16x65536 : Shape := ⟨2, ![16, 65536]⟩
abbrev S_ : Shape := ⟨0, ![]⟩
abbrev S16x524288 : Shape := ⟨2, ![16, 524288]⟩
abbrev S65536 : Shape := ⟨1, ![65536]⟩
abbrev S65536x8 : Shape := ⟨2, ![65536, 8]⟩

class Facts : Prop where
  bcast_S_S16x524288 : S_.BroadcastsInDim S16x524288 (![] : Fin 0 → Fin S16x524288.rank)
  bcast_S_S65536 : S_.BroadcastsInDim S65536 (![] : Fin 0 → Fin S65536.rank)
  bcast_S_S65536x8 : S_.BroadcastsInDim S65536x8 (![] : Fin 0 → Fin S65536x8.rank)

variable [Facts]

def fn {F : FTy → Type} [FloatOps F] (main_arg0 : FVec F S16x65536 .f32) (main_arg1 : IVec S_ 32) : IVec S16x524288 1 × IVec S65536 1 × IVec S65536x8 1 × IVec S_ 1 × IVec S65536 1 × IVec S65536x8 1 :=
  let main_c : IVec S_ 1 := constantI S_ 1 1#1
  let main_v0 : IVec S16x524288 1 := broadcastInDim S16x524288 ![] bcast_S_S16x524288 main_c
  let main_c_0 : IVec S_ 1 := constantI S_ 1 1#1
  let main_v1 : IVec S65536 1 := broadcastInDim S65536 ![] bcast_S_S65536 main_c_0
  let main_c_1 : IVec S_ 1 := constantI S_ 1 1#1
  let main_v2 : IVec S65536x8 1 := broadcastInDim S65536x8 ![] bcast_S_S65536x8 main_c_1
  let main_c_2 : IVec S_ 1 := constantI S_ 1 1#1
  let main_v3 : IVec S65536 1 := broadcastInDim S65536 ![] bcast_S_S65536 main_c_2
  let main_c_3 : IVec S_ 1 := constantI S_ 1 0#1
  let main_v4 : IVec S65536x8 1 := broadcastInDim S65536x8 ![] bcast_S_S65536x8 main_c_3
  let main_c_4 : IVec S_ 1 := constantI S_ 1 1#1
  (main_v0, main_v1, main_v2, main_c_4, main_v3, main_v4)
-- ==== Post_weights_near.lean ====
abbrev S16x65536 : Shape := ⟨2, ![16, 65536]⟩
abbrev S_ : Shape := ⟨0, ![]⟩
abbrev S16x524288 : Shape := ⟨2, ![16, 524288]⟩
abbrev S65536 : Shape := ⟨1, ![65536]⟩
abbrev S65536x8 : Shape := ⟨2, ![65536, 8]⟩
abbrev S65536x1 : Shape := ⟨2, ![65536, 1]⟩
abbrev S7 : Shape := ⟨1, ![7]⟩
abbrev S1 : Shape := ⟨1, ![1]⟩
abbrev S8 : Shape := ⟨1, ![8]⟩
abbrev S1x8 : Shape := ⟨2, ![1, 8]⟩

class Facts : Prop where
  bcast_S65536_S65536x1_0 : S65536.BroadcastsInDim S65536x1 (![0] : Fin 1 → Fin S65536x1.rank)
  bcast_S_S7 : S_.BroadcastsInDim S7 (![] : Fin 0 → Fin S7.rank)
  shapeCasts_S_S1 : S_.ShapeCasts S1
  bcast_S1_S7_0 : S1.BroadcastsInDim S7 (![0] : Fin 1 → Fin S7.rank)
  bcast_S_S1 : S_.BroadcastsInDim S1 (![] : Fin 0 → Fin S1.rank)
  concatenates_S7_S1_S8_d0 : Shape.Concatenates [S7, S1] S8 0
  bcast_S8_S1x8_1 : S8.BroadcastsInDim S1x8 (![1] : Fin 1 → Fin S1x8.rank)
  bcast_S65536x1_S65536x8_0_1 : S65536x1.BroadcastsInDim S65536x8 (![0, 1] : Fin 2 → Fin S65536x8.rank)
  bcast_S1x8_S65536x8_0_1 : S1x8.BroadcastsInDim S65536x8 (![0, 1] : Fin 2 → Fin S65536x8.rank)
  bcast_S_S65536x8 : S_.BroadcastsInDim S65536x8 (![] : Fin 0 → Fin S65536x8.rank)

variable [Facts]

def fn_linspace {F : FTy → Type} [FloatOps F] (arg0 : FVec F S_ .f32) (arg1 : FVec F S_ .f32) : FVec F S8 .f32 :=
  let v0 : FVec F S_ .f32 := id arg0
  let v1 : FVec F S_ .f32 := id arg1
  let v2 : FVec F S_ .f32 := subf v1 v0
  let cst : FVec F S_ .f32 := constant S_ .f32 0x40E00000#32
  let v3 : FVec F S_ .f32 := Host.divf v2 cst
  let v4 : FVec F S7 .f32 := sitofp .f32 (iotaInDim S7 32 0)
  let cst_0 : FVec F S_ .f32 := constant S_ .f32 0x40E00000#32
  let v5 : FVec F S7 .f32 := broadcastInDim S7 ![] bcast_S_S7 cst_0
  let v6 : FVec F S7 .f32 := Host.divf v4 v5
  let v7 : FVec F S1 .f32 := shapeCast S1 v0 shapeCasts_S_S1
  let cst_1 : FVec F S_ .f32 := constant S_ .f32 0x3F800000#32
  let v8 : FVec F S7 .f32 := broadcastInDim S7 ![] bcast_S_S7 cst_1
  let v9 : FVec F S7 .f32 := subf v8 v6
  let v10 : FVec F S7 .f32 := broadcastInDim S7 ![0] bcast_S1_S7_0 v7
  let v11 : FVec F S7 .f32 := mulf v10 v9
  let v12 : FVec F S1 .f32 := shapeCast S1 v1 shapeCasts_S_S1
  let v13 : FVec F S7 .f32 := broadcastInDim S7 ![0] bcast_S1_S7_0 v12
  let v14 : FVec F S7 .f32 := mulf v13 v6
  let v15 : FVec F S7 .f32 := addf v11 v14
  let v16 : FVec F S1 .f32 := broadcastInDim S1 ![] bcast_S_S1 v1
  let v17 : FVec F S8 .f32 := (fun a b => concatenate S8 0 [⟨S7, a⟩, ⟨S1, b⟩] concatenates_S7_S1_S8_d0) v15 v16
  v17

def fn {F : FTy → Type} [FloatOps F] (main_arg0 : FVec F S16x65536 .f32) (main_arg1 : IVec S_ 32) (main_arg2 : FVec F S16x524288 .f32) (main_arg3 : FVec F S65536 .f32) (main_arg4 : FVec F S65536x8 .f32) (main_arg5 : FVec F S_ .f32) (main_arg6 : FVec F S65536 .f32) (main_arg7 : FVec F S65536x8 .f32) : IVec S65536x8 1 :=
  let main_v0 : FVec F S65536x1 .f32 := broadcastInDim S65536x1 ![0] bcast_S65536_S65536x1_0 main_arg3
  let main_cst : FVec F S_ .f32 := constant S_ .f32 0x00000000#32
  let main_cst_0 : FVec F S_ .f32 := constant S_ .f32 0x40C90FDB#32
  let main_v1 : FVec F S8 .f32 := fn_linspace (F := F) main_cst main_cst_0
  let main_v2 : FVec F S1x8 .f32 := broadcastInDim S1x8 ![1] bcast_S8_S1x8_1 main_v1
  let main_v3 : FVec F S65536x8 .f32 := broadcastInDim S65536x8 ![0, 1] bcast_S65536x1_S65536x8_0_1 main_v0
  let main_v4 : FVec F S65536x8 .f32 := broadcastInDim S65536x8 ![0, 1] bcast_S1x8_S65536x8_0_1 main_v2
  let main_v5 : FVec F S65536x8 .f32 := subf main_v3 main_v4
  let main_v6 : FVec F S65536x8 .f32 := Host.cos main_v5
  let main_v7 : FVec F S65536x8 .f32 := subf main_arg7 main_v6
  let main_v8 : FVec F S65536x8 .f32 := Host.absf main_v7
  let main_cst_1 : FVec F S_ .f32 := constant S_ .f32 0x358637BD#32
  let main_v9 : FVec F S65536x8 .f32 := broadcastInDim S65536x8 ![] bcast_S_S65536x8 main_cst_1
  let main_v10 : IVec S65536x8 1 := cmpf .ole main_v8 main_v9
  main_v10
-- ==== Kernel.lean ====
abbrev S16x65536 : Shape := ⟨2, ![16, 65536]⟩
abbrev S_ : Shape := ⟨0, ![]⟩
abbrev S128x1024 : Shape := ⟨2, ![128, 1024]⟩
abbrev S8x1 : Shape := ⟨2, ![8, 1]⟩
abbrev S1x65536 : Shape := ⟨2, ![1, 65536]⟩
abbrev S65536 : Shape := ⟨1, ![65536]⟩
abbrev S512x128 : Shape := ⟨2, ![512, 128]⟩
abbrev S2x512x8x8x128 : Shape := ⟨5, ![2, 512, 8, 8, 128]⟩
abbrev S8x65536 : Shape := ⟨2, ![8, 65536]⟩
abbrev S128x128 : Shape := ⟨2, ![128, 128]⟩
abbrev S1x16384 : Shape := ⟨2, ![1, 16384]⟩
abbrev S2x128x8x8x128 : Shape := ⟨5, ![2, 128, 8, 8, 128]⟩
abbrev S8x16384 : Shape := ⟨2, ![8, 16384]⟩
abbrev S1x128x1x128 : Shape := ⟨4, ![1, 128, 1, 128]⟩
abbrev S2x128x8x128 : Shape := ⟨4, ![2, 128, 8, 128]⟩
abbrev S2x128x1x8x128 : Shape := ⟨5, ![2, 128, 1, 8, 128]⟩
abbrev S2x8x512x8x128 : Shape := ⟨5, ![2, 8, 512, 8, 128]⟩
abbrev S16x524288 : Shape := ⟨2, ![16, 524288]⟩
abbrev S65536x8 : Shape := ⟨2, ![65536, 8]⟩

abbrev nBuf : Space → Nat
  | .hbm => 21
  | .vmem => 17
  | .smem => 0
  | _ => 0

abbrev bufTy : (tb : Table) → Fin (tcTables nBuf tb) → BufTy
  | .hbm, ⟨0, _⟩ => ⟨S16x65536, .f32⟩
  | .hbm, ⟨1, _⟩ => ⟨S_, .i32⟩
  | .hbm, ⟨2, _⟩ => ⟨S128x1024, .f32⟩
  | .hbm, ⟨3, _⟩ => ⟨S8x1, .f32⟩
  | .hbm, ⟨4, _⟩ => ⟨S8x1, .f32⟩
  | .hbm, ⟨5, _⟩ => ⟨S1x65536, .f32⟩
  | .hbm, ⟨6, _⟩ => ⟨S65536, .f32⟩
  | .hbm, ⟨7, _⟩ => ⟨S512x128, .f32⟩
  | .hbm, ⟨8, _⟩ => ⟨S1x65536, .f32⟩
  | .hbm, ⟨9, _⟩ => ⟨S2x512x8x8x128, .f32⟩
  | .hbm, ⟨10, _⟩ => ⟨S8x65536, .f32⟩
  | .hbm, ⟨11, _⟩ => ⟨S512x128, .f32⟩
  | .hbm, ⟨12, _⟩ => ⟨S512x128, .f32⟩
  | .hbm, ⟨13, _⟩ => ⟨S8x65536, .f32⟩
  | .hbm, ⟨14, _⟩ => ⟨S2x8x512x8x128, .f32⟩
  | .hbm, ⟨15, _⟩ => ⟨S16x524288, .f32⟩
  | .hbm, ⟨16, _⟩ => ⟨S65536, .f32⟩
  | .hbm, ⟨17, _⟩ => ⟨S65536x8, .f32⟩
  | .hbm, ⟨18, _⟩ => ⟨S65536, .f32⟩
  | .hbm, ⟨19, _⟩ => ⟨S65536x8, .f32⟩
  | .hbm, ⟨20, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S1x16384, .f32⟩
  | .local _ .vmem, ⟨3, _⟩ => ⟨S1x16384, .f32⟩
  | .local _ .vmem, ⟨4, _⟩ => ⟨S128x1024, .f32⟩
  | .local _ .vmem, ⟨5, _⟩ => ⟨S8x1, .f32⟩
  | .local _ .vmem, ⟨6, _⟩ => ⟨S8x1, .f32⟩
  | .local _ .vmem, ⟨7, _⟩ => ⟨S2x128x8x8x128, .f32⟩
  | .local _ .vmem, ⟨8, _⟩ => ⟨S2x128x8x8x128, .f32⟩
  | .local _ .vmem, ⟨9, _⟩ => ⟨S8x16384, .f32⟩
  | .local _ .vmem, ⟨10, _⟩ => ⟨S8x16384, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S8x16384, .f32⟩
  | .local _ .vmem, ⟨16, _⟩ => ⟨S8x16384, .f32⟩
  | _, _ => ⟨S16x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x128x8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x16384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "step" => some ((878453 / 73299656704 : ℝ) : EReal)
  | _ => none
-- ==== ReferenceIdeal.lean ====
abbrev S16x65536 : Shape := ⟨2, ![16, 65536]⟩
abbrev S_ : Shape := ⟨0, ![]⟩
abbrev S65535 : Shape := ⟨1, ![65535]⟩
abbrev S1 : Shape := ⟨1, ![1]⟩
abbrev S65536 : Shape := ⟨1, ![65536]⟩
abbrev S1x65536 : Shape := ⟨2, ![1, 65536]⟩
abbrev S65536x1 : Shape := ⟨2, ![65536, 1]⟩
abbrev S1x8 : Shape := ⟨2, ![1, 8]⟩
abbrev S65536x8 : Shape := ⟨2, ![65536, 8]⟩
abbrev S524288 : Shape := ⟨1, ![524288]⟩
abbrev S1x524288 : Shape := ⟨2, ![1, 524288]⟩
abbrev S16x524288 : Shape := ⟨2, ![16, 524288]⟩
abbrev S7 : Shape := ⟨1, ![7]⟩
abbrev S8 : Shape := ⟨1, ![8]⟩

abbrev nBuf : Space → Nat
  | .hbm => 118
  | .vmem => 0
  | .smem => 0
  | _ => 0

abbrev bufTy : (tb : Table) → Fin (tcTables nBuf tb) → BufTy
  | .hbm, ⟨0, _⟩ => ⟨S16x65536, .f32⟩
  | .hbm, ⟨1, _⟩ => ⟨S_, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S65535, .f32⟩
  | .hbm, ⟨10, _⟩ => ⟨S_, .f32⟩
  | .hbm, ⟨11, _⟩ => ⟨S65535, .f32⟩
  | .hbm, ⟨12, _⟩ => ⟨S65535, .f32⟩
  | .hbm, ⟨13, _⟩ => ⟨S1, .f32⟩
  | .hbm, ⟨14, _⟩ => ⟨S_, .f32⟩
  | .hbm, ⟨15, _⟩ => ⟨S65535, .f32⟩
  | .hbm, ⟨16, _⟩ => ⟨S65535, .f32⟩
  | .hbm, ⟨17, _⟩ => ⟨S65535, .f32⟩
  | .hbm, ⟨18, _⟩ => ⟨S65535, .f32⟩
  | .hbm, ⟨19, _⟩ => ⟨S1, .f32⟩
  | .hbm, ⟨20, _⟩ => ⟨S65535, .f32⟩
  | .hbm, ⟨21, _⟩ => ⟨S65535, .f32⟩
  | .hbm, ⟨22, _⟩ => ⟨S65535, .f32⟩
  | .hbm, ⟨23, _⟩ => ⟨S1, .f32⟩
  | .hbm, ⟨24, _⟩ => ⟨S65536, .f32⟩
  | .hbm, ⟨25, _⟩ => ⟨S_, .f32⟩
  | .hbm, ⟨26, _⟩ => ⟨S65536, .f32⟩
  | .hbm, ⟨27, _⟩ => ⟨S65536, .f32⟩
  | .hbm, ⟨28, _⟩ => ⟨S_, .f32⟩
  | .hbm, ⟨29, _⟩ => ⟨S_, .f32⟩
  | .hbm, ⟨30, _⟩ => ⟨S65536, .f32⟩
  | .hbm, ⟨31, _⟩ => ⟨S65536, .f32⟩
  | .hbm, ⟨32, _⟩ => ⟨S_, .f32⟩
  | .hbm, ⟨33, _⟩ => ⟨S65536, .f32⟩
  | .hbm, ⟨34, _⟩ => ⟨S65536, .i1⟩
  | .hbm, ⟨35, _⟩ => ⟨S_, .f32⟩
  | .hbm, ⟨36, _⟩ => ⟨S65536, .f32⟩
  | .hbm, ⟨37, _⟩ => ⟨S65536, .i1⟩
  | .hbm, ⟨38, _⟩ => ⟨S_, .f32⟩
  | .hbm, ⟨39, _⟩ => ⟨S_, .i1⟩
  | .hbm, ⟨40, _⟩ => ⟨S65536, .i1⟩
  | .hbm, ⟨41, _⟩ => ⟨S65536, .i1⟩
  | .hbm, ⟨42, _⟩ => ⟨S65536, .i1⟩
  | .hbm, ⟨43, _⟩ => ⟨S65536, .f32⟩
  | .hbm, ⟨44, _⟩ => ⟨S65536, .f32⟩
  | .hbm, ⟨45, _⟩ => ⟨S65536, .f32⟩
  | .hbm, ⟨46, _⟩ => ⟨S1x65536, .f32⟩
  | .hbm, ⟨47, _⟩ => ⟨S65536, .f32⟩
  | .hbm, ⟨48, _⟩ => ⟨S_, .f32⟩
  | .hbm, ⟨49, _⟩ => ⟨S65536, .f32⟩
  | .hbm, ⟨50, _⟩ => ⟨S65536, .i1⟩
  | .hbm, ⟨51, _⟩ => ⟨S_, .f32⟩
  | .hbm, ⟨52, _⟩ => ⟨S65536, .f32⟩
  | .hbm, ⟨53, _⟩ => ⟨S65536, .f32⟩
  | .hbm, ⟨54, _⟩ => ⟨S_, .f32⟩
  | .hbm, ⟨55, _⟩ => ⟨S65536, .f32⟩
  | .hbm, ⟨56, _⟩ => ⟨S65536, .f32⟩
  | .hbm, ⟨57, _⟩ => ⟨S65536, .f32⟩
  | .hbm, ⟨58, _⟩ => ⟨S65536, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S65536, .i32⟩
  | .hbm, ⟨63, _⟩ => ⟨S65536, .i32⟩
  | .hbm, ⟨64, _⟩ => ⟨S_, .i32⟩
  | .hbm, ⟨65, _⟩ => ⟨S65536, .i32⟩
  | .hbm, ⟨66, _⟩ => ⟨S65536, .i32⟩
  | .hbm, ⟨67, _⟩ => ⟨S65536x1, .i32⟩
  | .hbm, ⟨68, _⟩ => ⟨S1x8, .i32⟩
  | .hbm, ⟨69, _⟩ => ⟨S65536x8, .i32⟩
  | .hbm, ⟨70, _⟩ => ⟨S65536x8, .i32⟩
  | .hbm, ⟨71, _⟩ => ⟨S65536x8, .i1⟩
  | .hbm, ⟨72, _⟩ => ⟨S65536x8, .f32⟩
  | .hbm, ⟨73, _⟩ => ⟨S65536x1, .i1⟩
  | .hbm, ⟨74, _⟩ => ⟨S65536x1, .f32⟩
  | .hbm, ⟨75, _⟩ => ⟨S65536x8, .f32⟩
  | .hbm, ⟨76, _⟩ => ⟨S65536x8, .f32⟩
  | .hbm, ⟨77, _⟩ => ⟨S_, .f32⟩
  | .hbm, ⟨78, _⟩ => ⟨S65536x8, .f32⟩
  | .hbm, ⟨79, _⟩ => ⟨S65536x8, .f32⟩
  | .hbm, ⟨80, _⟩ => ⟨S_, .f32⟩
  | .hbm, ⟨81, _⟩ => ⟨S_, .f32⟩
  | .hbm, ⟨82, _⟩ => ⟨S65536, .f32⟩
  | .hbm, ⟨83, _⟩ => ⟨S65536, .f32⟩
  | .hbm, ⟨84, _⟩ => ⟨S524288, .f32⟩
  | .hbm, ⟨85, _⟩ => ⟨S1x524288, .f32⟩
  | .hbm, ⟨86, _⟩ => ⟨S16x524288, .f32⟩
  | .hbm, ⟨87, _⟩ => ⟨S65536x1, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S7, .f32⟩
  | .hbm, ⟨96, _⟩ => ⟨S_, .f32⟩
  | .hbm, ⟨97, _⟩ => ⟨S7, .f32⟩
  | .hbm, ⟨98, _⟩ => ⟨S7, .f32⟩
  | .hbm, ⟨99, _⟩ => ⟨S1, .f32⟩
  | .hbm, ⟨100, _⟩ => ⟨S_, .f32⟩
  | .hbm, ⟨101, _⟩ => ⟨S7, .f32⟩
  | .hbm, ⟨102, _⟩ => ⟨S7, .f32⟩
  | .hbm, ⟨103, _⟩ => ⟨S7, .f32⟩
  | .hbm, ⟨104, _⟩ => ⟨S7, .f32⟩
  | .hbm, ⟨105, _⟩ => ⟨S1, .f32⟩
  | .hbm, ⟨106, _⟩ => ⟨S7, .f32⟩
  | .hbm, ⟨107, _⟩ => ⟨S7, .f32⟩
  | .hbm, ⟨108, _⟩ => ⟨S7, .f32⟩
  | .hbm, ⟨109, _⟩ => ⟨S1, .f32⟩
  | .hbm, ⟨110, _⟩ => ⟨S8, .f32⟩
  | .hbm, ⟨111, _⟩ => ⟨S1x8, .f32⟩
  | .hbm, ⟨112, _⟩ => ⟨S65536x8, .f32⟩
  | .hbm, ⟨113, _⟩ => ⟨S65536x8, .f32⟩
  | .hbm, ⟨114, _⟩ => ⟨S65536x8, .f32⟩
  | .hbm, ⟨115, _⟩ => ⟨S65536x8, .f32⟩
  | .hbm, ⟨116, _⟩ => ⟨S65536x8, .f32⟩
  | .hbm, ⟨117, _⟩ => ⟨S_, .f32⟩
  | _, _ => ⟨S16x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_cst_1 : Ref sig .tc := ⟨.hbm, 25, rfl⟩
abbrev main_v1 : Ref sig .tc := ⟨.hbm, 26, rfl⟩
abbrev main_v2 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_cst : Ref sig .tc := ⟨.hbm, 32, rfl⟩
abbrev main_call1_v3 : Ref sig .tc := ⟨.hbm, 33, rfl⟩
abbrev main_call1_v4 : Ref sig .tc := ⟨.hbm, 34, rfl⟩
abbrev main_call1_cst_0 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_cst_3 : Ref sig .tc := ⟨.hbm, 48, rfl⟩
abbrev main_v6 : Ref sig .tc := ⟨.hbm, 49, rfl⟩
abbrev main_v7 : Ref sig .tc := ⟨.hbm, 50, rfl⟩
abbrev main_cst_4 : Ref sig .tc := ⟨.hbm, 51, rfl⟩
abbrev main_v8 : Ref sig .tc := ⟨.hbm, 52, rfl⟩
abbrev main_v9 : Ref sig .tc := ⟨.hbm, 53, rfl⟩
abbrev main_cst_5 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_c : Ref sig .tc := ⟨.hbm, 59, rfl⟩
abbrev main_c_6 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v14 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_cst_7 : Ref sig .tc := ⟨.hbm, 77, rfl⟩
abbrev main_v20 : Ref sig .tc := ⟨.hbm, 78, rfl⟩
abbrev main_v21 : Ref sig .tc := ⟨.hbm, 79, rfl⟩
abbrev main_cst_8 : Ref sig .tc := ⟨.hbm, 80, rfl⟩
abbrev main_call4_v0 : Ref sig .tc := ⟨.hbm, 81, rfl⟩
abbrev main_call4_v1 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_cst_9 : Ref sig .tc := ⟨.hbm, 88, rfl⟩
abbrev main_cst_10 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_cst : Ref sig .tc := ⟨.hbm, 93, rfl⟩
abbrev main_call5_v3 : Ref sig .tc := ⟨.hbm, 94, rfl⟩
abbrev main_call5_v4 : Ref sig .tc := ⟨.hbm, 95, rfl⟩
abbrev main_call5_cst_0 : Ref sig .tc := ⟨.hbm, 96, rfl⟩
abbrev main_call5_v5 : Ref sig .tc := ⟨.hbm, 97, rfl⟩
abbrev main_call5_v6 : Ref sig .tc := ⟨.hbm, 98, rfl⟩
abbrev main_call5_v7 : Ref sig .tc := ⟨.hbm, 99, rfl⟩
abbrev main_call5_cst_1 : Ref sig .tc := ⟨.hbm, 100, rfl⟩
abbrev main_call5_v8 : Ref sig .tc := ⟨.hbm, 101, rfl⟩
abbrev main_call5_v9 : Ref sig .tc := ⟨.hbm, 102, rfl⟩
abbrev main_call5_v10 : Ref sig .tc := ⟨.hbm, 103, rfl⟩
abbrev main_call5_v11 : Ref sig .tc := ⟨.hbm, 104, rfl⟩
abbrev main_call5_v12 : Ref sig .tc := ⟨.hbm, 105, rfl⟩
abbrev main_call5_v13 : Ref sig .tc := ⟨.hbm, 106, rfl⟩
abbrev main_call5_v14 : Ref sig .tc := ⟨.hbm, 107, rfl⟩
abbrev main_call5_v15 : Ref sig .tc := ⟨.hbm, 108, rfl⟩
abbrev main_call5_v16 : Ref sig .tc := ⟨.hbm, 109, rfl⟩
abbrev main_v27 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_v33 : Ref sig .tc := ⟨.hbm, 116, rfl⟩
abbrev main_cst_11 : Ref sig .tc := ⟨.hbm, 117, rfl⟩

abbrev nD : Nat := 1
abbrev τ : Topo := Topo.v7x

variable {F : FTy → Type} [FloatOps F]
-- ==== Proof.Consts.lean ====
/- The f32 words the programs print, as the extended reals they stand for. -/
module

public import Idealize.ShloMosaic.PureOps.Ideal

@[expose] public section

noncomputable section

namespace Cert.Consts

open Idealize.ShloMosaic

/-- The word `0x00000000` is the real 0. -/
theorem zero_bits : Ideal.ofBits .f32 0x00000000#32 = (0 : EReal) := by
  simp [Ideal.ofBits, Ideal.ieee, -EReal.coe_mul]

/-- The word `0x3F800000` is the real 1. -/
theorem one_bits : Ideal.ofBits .f32 0x3F800000#32 = (1 : EReal) := by
  simp [Ideal.ofBits, Ideal.ieee, -EReal.coe_mul]
  norm_num

/-- The word `0x3E80ADFD` is the real 8433149/33554432. -/
theorem osc_bits : Ideal.ofBits .f32 0x3E80ADFD#32 = ((8433149 / 33554432 : ℝ) : EReal) := by
  simp [Ideal.ofBits, Ideal.ieee, -EReal.coe_mul]
  norm_num

/-- The word `0x40C90FDB` is the real 13176795/2097152. -/
theorem twoPi_bits : Ideal.ofBits .f32 0x40C90FDB#32 = ((13176795 / 2097152 : ℝ) : EReal) := by
  simp [Ideal.ofBits, Ideal.ieee, -EReal.coe_mul]
  norm_num

/-- The word `0x3F490FDB` is the real 13176795/16777216. -/
theorem quarter_bits : Ideal.ofBits .f32 0x3F490FDB#32 = ((13176795 / 16777216 : ℝ) : EReal) := by
  simp [Ideal.ofBits, Ideal.ieee, -EReal.coe_mul]
  norm_num

/-- The word `0x477FFF00` is the real 65535. -/
theorem n65535_bits : Ideal.ofBits .f32 0x477FFF00#32 = ((65535 : ℝ) : EReal) := by
  simp [Ideal.ofBits, Ideal.ieee, -EReal.coe_mul]
  norm_num

/-- The word `0x41000000` is the real 8. -/
theorem eight_bits : Ideal.ofBits .f32 0x41000000#32 = ((8 : ℝ) : EReal) := by
  simp [Ideal.ofBits, Ideal.ieee, -EReal.coe_mul]
  norm_num

/-- The word `0x3F733333` is the real 15938355/16777216. -/
theorem conf_bits : Ideal.ofBits .f32 0x3F733333#32 = ((15938355 / 16777216 : ℝ) : EReal) := by
  simp [Ideal.ofBits, Ideal.ieee, -EReal.coe_mul]
  norm_num

/-- The word `0x40E00000` is the real 7. -/
theorem seven_bits : Ideal.ofBits .f32 0x40E00000#32 = ((7 : ℝ) : EReal) := by
  simp [Ideal.ofBits, Ideal.ieee, -EReal.coe_mul]
  norm_num

/-- The word `0x358637BD` is the real 8796093/8796093022208. -/
theorem tol_bits : Ideal.ofBits .f32 0x358637BD#32 = ((8796093 / 8796093022208 : ℝ) : EReal) := by
  simp [Ideal.ofBits, Ideal.ieee, -EReal.coe_mul]
  norm_num

/-- The word `0x3F24DEEC` is the real 2701243/4194304. -/
theorem center_bits : Ideal.ofBits .f32 0x3F24DEEC#32 = ((2701243 / 4194304 : ℝ) : EReal) := by
  simp [Ideal.ofBits, Ideal.ieee, -EReal.coe_mul]
  norm_num

/-- The word `0xBAB60B61` is the real -11930465/8589934592. -/
theorem c6_bits : Ideal.ofBits .f32 0xBAB60B61#32 = ((-11930465 / 8589934592 : ℝ) : EReal) := by
  simp [Ideal.ofBits, Ideal.ieee, -EReal.coe_mul]
  norm_num

/-- The word `0x3D2AAAAB` is the real 11184811/268435456. -/
theorem c4_bits : Ideal.ofBits .f32 0x3D2AAAAB#32 = ((11184811 / 268435456 : ℝ) : EReal) := by
  simp [Ideal.ofBits, Ideal.ieee, -EReal.coe_mul]
  norm_num

/-- The word `0xBF000000` is the real -1/2. -/
theorem c2_bits : Ideal.ofBits .f32 0xBF000000#32 = ((-1 / 2 : ℝ) : EReal) := by
  simp [Ideal.ofBits, Ideal.ieee, -EReal.coe_mul]
  norm_num

/-- The word `0x3C088889` is the real 8947849/1073741824. -/
theorem s5_bits : Ideal.ofBits .f32 0x3C088889#32 = ((8947849 / 1073741824 : ℝ) : EReal) := by
  simp [Ideal.ofBits, Ideal.ieee, -EReal.coe_mul]
  norm_num

/-- The word `0xBE2AAAAB` is the real -11184811/67108864. -/
theorem s3_bits : Ideal.ofBits .f32 0xBE2AAAAB#32 = ((-11184811 / 67108864 : ℝ) : EReal) := by
  simp [Ideal.ofBits, Ideal.ieee, -EReal.coe_mul]
  norm_num

/-- The word `0x3F4CB822` is the real 6708241/8388608. -/
theorem cosC_bits : Ideal.ofBits .f32 0x3F4CB822#32 = ((6708241 / 8388608 : ℝ) : EReal) := by
  simp [Ideal.ofBits, Ideal.ieee, -EReal.coe_mul]
  norm_num

/-- The word `0x3F19B524` is the real 2518345/4194304. -/
theorem sinC_bits : Ideal.ofBits .f32 0x3F19B524#32 = ((2518345 / 4194304 : ℝ) : EReal) := by
  simp [Ideal.ofBits, Ideal.ieee, -EReal.coe_mul]
  norm_num

/-- The word `0x3F1F9D07` is the real 10460423/16777216. -/
theorem cos1_bits : Ideal.ofBits .f32 0x3F1F9D07#32 = ((10460423 / 16777216 : ℝ) : EReal) := by
  simp [Ideal.ofBits, Ideal.ieee, -EReal.coe_mul]
  norm_num

/-- The word `0xBE63DC87` is the real -14933127/67108864. -/
theorem cos2_bits : Ideal.ofBits .f32 0xBE63DC87#32 = ((-14933127 / 67108864 : ℝ) : EReal) := by
  simp [Ideal.ofBits, Ideal.ieee, -EReal.coe_mul]
  norm_num

/-- The word `0xBF66A5E5` is the real -15115749/16777216. -/
theorem cos3_bits : Ideal.ofBits .f32 0xBF66A5E5#32 = ((-15115749 / 16777216 : ℝ) : EReal) := by
  simp [Ideal.ofBits, Ideal.ieee, -EReal.coe_mul]
  norm_num

/-- The word `0x3F48261C` is the real 3279239/4194304. -/
theorem sin1_bits : Ideal.ofBits .f32 0x3F48261C#32 = ((3279239 / 4194304 : ℝ) : EReal) := by
  simp [Ideal.ofBits, Ideal.ieee, -EReal.coe_mul]
  norm_num

/-- The word `0x3F7994E0` is the real 511143/524288. -/
theorem sin2_bits : Ideal.ofBits .f32 0x3F7994E0#32 = ((511143 / 524288 : ℝ) : EReal) := by
  simp [Ideal.ofBits, Ideal.ieee, -EReal.coe_mul]
  norm_num

/-- The word `0x3EDE2602` is the real 7279361/16777216. -/
theorem sin3_bits : Ideal.ofBits .f32 0x3EDE2602#32 = ((7279361 / 16777216 : ℝ) : EReal) := by
  simp [Ideal.ofBits, Ideal.ieee, -EReal.coe_mul]
  norm_num

/-- The word `0xBEDE2602` is the real -7279361/16777216. -/
theorem sin4_bits : Ideal.ofBits .f32 0xBEDE2602#32 = ((-7279361 / 16777216 : ℝ) : EReal) := by
  simp [Ideal.ofBits, Ideal.ieee, -EReal.coe_mul]
  norm_num

/-- The word `0xBF7994E0` is the real -511143/524288. -/
theorem sin5_bits : Ideal.ofBits .f32 0xBF7994E0#32 = ((-511143 / 524288 : ℝ) : EReal) := by
  simp [Ideal.ofBits, Ideal.ieee, -EReal.coe_mul]
  norm_num

/-- The word `0xBF48261C` is the real -3279239/4194304. -/
theorem sin6_bits : Ideal.ofBits .f32 0xBF48261C#32 = ((-3279239 / 4194304 : ℝ) : EReal) := by
  simp [Ideal.ofBits, Ideal.ieee, -EReal.coe_mul]
  norm_num

/-- The word `0xA58D3132` is the real -4626585/18889465931478580854784. -/
theorem sin7_bits : Ideal.ofBits .f32 0xA58D3132#32 = ((-4626585 / 18889465931478580854784 : ℝ) : EReal) := by
  simp [Ideal.ofBits, Ideal.ieee, -EReal.coe_mul]
  norm_num

/-- The word `0xFF800000` is minus infinity. -/
theorem neg_inf_bits : Ideal.ofBits .f32 0xFF800000#32 = (⊥ : EReal) := by
  simp [Ideal.ofBits, Ideal.ieee]

end Cert.Consts

end
-- ==== Proof.Spec.lean ====
/- The mathematics both programs compute: the phase of each lane, its bin, and the result arrays. -/
module

public import proofs.«01_k».proof.Proof.Consts

@[expose] public section

noncomputable section

namespace Cert.Spec

open Idealize.ShloMosaic

/-- The oscillator's phase after one step, as the f32 constant both programs print. -/
def osc : ℝ := 8433149 / 33554432
/-- The f32 constant nearest two pi. -/
def tp : ℝ := 13176795 / 2097152
/-- The distance between neighbouring lanes' phases. -/
def step : ℝ := 878453 / 73299656704
/-- The confidence a set bin holds. -/
def conf : ℝ := 15938355 / 16777216

/-- The phase of lane `n`. -/
def ph (n : ℕ) : ℝ := osc + n * step

/-- The phase bin of lane `n`. -/
def bin (n : ℕ) : ℤ := ⌊ph n * (1 / tp) * 8⌋

/-- What bin `k` of lane `n` holds: the confidence where the lane's spike is positive and `k` is its bin. -/
def cell (x : EReal) (n k : ℕ) : EReal := if 0 < x ∧ bin n = k then (conf : EReal) else 0

/-- The last spike time of lane `n`: its phase where its spike is positive, minus infinity elsewhere. -/
def last (x : EReal) (n : ℕ) : EReal := if 0 < x then (ph n : EReal) else ⊥

/-- Lane `n` of the spike array's first row. -/
def lane (n : ℕ) (h : n < 65536) : (⟨2, ![16, 65536]⟩ : Shape).Idx := fun a => match a with
  | ⟨0, _⟩ => ⟨0, Nat.zero_lt_succ 15⟩
  | ⟨1, _⟩ => ⟨n, h⟩

/-- A comparison of extended reals is the linear order's. -/
theorem cmpf_eq (p : CmpFPredicate) (x y : EReal) : FloatOps.cmpf (F := Ideal) (φ := .f32) p x y = Ideal.cmp p x y := rfl

/-- The word of a small natural number, read as a signed integer. -/
theorem toInt_small (n : ℕ) (h : n < 2147483648) : (BitVec.ofNat 32 n).toInt = n := by
  rw [BitVec.toInt_eq_toNat_of_lt (by rw [BitVec.toNat_ofNat]; omega), BitVec.toNat_ofNat, Nat.mod_eq_of_lt (by omega)]

/-- Phases are positive. -/
theorem ph_pos (n : ℕ) : 0 < ph n := by
  unfold ph osc step
  positivity

/-- Phases stay under 1.04. -/
theorem ph_lt (n : ℕ) (h : n < 65536) : ph n < 1.04 := by
  have h' : (n : ℝ) ≤ 65535 := by exact_mod_cast Nat.lt_succ_iff.mp h
  unfold ph osc step
  nlinarith

/-- Phases lie below two pi. -/
theorem ph_lt_tp (n : ℕ) (h : n < 65536) : ph n < tp := by
  have := ph_lt n h
  unfold tp
  linarith

/-- Every lane falls in bin 0 or bin 1. -/
theorem bin_cases (n : ℕ) (h : n < 65536) : bin n = 0 ∨ bin n = 1 := by
  have h0 := ph_pos n
  have h1 := ph_lt n h
  have a : 0 ≤ bin n := Int.floor_nonneg.mpr (by unfold tp; positivity)
  have b : bin n < 2 := Int.floor_lt.mpr (by unfold tp; push_cast; linarith)
  omega

/-- A phase divided by two pi truncates to zero. -/
theorem truncInt_ph (n : ℕ) (h : n < 65536) : Ideal.truncInt (ph n / tp) = 0 := by
  have h0 := ph_pos n
  have h1 := ph_lt_tp n h
  have ht : (0 : ℝ) < tp := by unfold tp; positivity
  rw [Ideal.truncInt, if_pos (by positivity), Int.floor_eq_zero_iff]
  exact ⟨by positivity, (div_lt_one ht).mpr h1⟩

end Cert.Spec

end
-- ==== Proof.Payload.lean ====
/- What the kernel's body computes from its blocks, read at an index. -/
module

public import proofs.«01_k».proof.Proof.Spec
public import proofs.«01_k».proof.Proof.Gen.KernelIdeal.Skeleton
public import Idealize.ShloMosaic.Lib.Pipeline.ValueKit

@[expose] public section

set_option maxRecDepth 16384

noncomputable section

namespace Cert.Payload

open Idealize.ShloMosaic Cert.KernelIdeal Cert.KernelIdeal.Gen Cert.Spec Cert.Consts

/-- The named constant the kernel steps its phases by. -/
theorem step_named : Named.named (F := Ideal) (φ := .f32) κ "step" 0x374910A4#32 = (step : EReal) :=
  IdealRules.named_const.ideal_named_scalar _ _ _ _ rfl

/-- The phase the kernel computes from a lane's number. -/
theorem phase_word (n : ℕ) (hn : n < 2147483648) :
    Ideal.ofBits .f32 0x3E80ADFD#32 + (((BitVec.ofNat 32 n).toInt : ℝ) : EReal) * (Named.named (F := Ideal) (φ := .f32) κ "step" 0x374910A4#32 : EReal)
      = (ph n : EReal) := by
  rw [step_named, osc_bits, toInt_small n hn, ← EReal.coe_mul, ← EReal.coe_add]
  simp only [ph, osc, Int.cast_natCast]

/-- Eight times the quotient of a lane's phase by two pi, rounded down, is the lane's bin. -/
theorem floor_bin (n : ℕ) :
    FloatOps.floor (F := Ideal) (φ := .f32) (Ideal.div (ph n : EReal) (Ideal.ofBits .f32 0x40C90FDB#32) * Ideal.ofBits .f32 0x41000000#32) = ((bin n : ℝ) : EReal) := by
  rw [twoPi_bits, eight_bits, Ideal.div_coe (by norm_num), ← EReal.coe_mul, ← EReal.coe_mul]
  rfl

/-- The lane number the kernel forms from a block, a row and a column. -/
theorem lane_word (g r o l : ℕ) :
    ((BitVec.ofNat 32 g * 128#32 + BitVec.ofNat 32 r) * 128#32 + BitVec.ofNat 32 o) + BitVec.ofNat 32 l = BitVec.ofNat 32 ((g * 128 + r) * 128 + o + l) := by
  simp only [← BitVec.ofNat_add, ← BitVec.ofNat_mul]

/-- A column shifted right by three is its eighth. -/
theorem shift_word (l : ℕ) (h : l < 128) : IntOp.shrsi .vector (BitVec.ofNat 32 l) 3#32 = BitVec.ofNat 32 (l / 8) := by
  have : ∀ a : Fin 128, IntOp.shrsi .vector (BitVec.ofNat 32 a.val) 3#32 = BitVec.ofNat 32 (a.val / 8) := by decide
  exact this ⟨l, h⟩

/-- A column's low three bits are its remainder by eight. -/
theorem low_word (l : ℕ) (h : l < 128) : (IntOp.andi (BitVec.ofNat 32 l) 7#32).toInt = ((l % 8 : ℕ) : ℤ) := by
  have : ∀ a : Fin 128, (IntOp.andi (BitVec.ofNat 32 a.val) 7#32).toInt = ((a.val % 8 : ℕ) : ℤ) := by decide
  exact this ⟨l, h⟩

/-- A bin compared with a column number, as the word the comparison gives. -/
theorem cmp_bin (b : ℤ) (k : ℕ) :
    Ideal.cmp .oeq ((b : ℝ) : EReal) (((k : ℤ) : ℝ) : EReal) = BitVec.ofBool (decide (b = k)) := by
  simp only [Ideal.cmp]
  congr 1
  rw [decide_eq_decide, EReal.coe_eq_coe_iff]
  exact_mod_cast Iff.rfl

/-- The phases block. -/
theorem pay1_apply (i : grid0.Coords) (j : S128x128.Idx) :
    k0_pay1 (F := Ideal) i j = (ph (((i 0).val * 128 + (j 0).val) * 128 + (j 1).val) : EReal) := by
  have hi : (i 0).val < 4 := (i 0).isLt
  have h0 : (j 0).val < 128 := (j 0).isLt
  have h1 : (j 1).val < 128 := (j 1).isLt
  rw [← phase_word _ (by omega)]
  show Ideal.ofBits .f32 0x3E80ADFD#32 + ((((BitVec.ofNat 32 (i 0).val * 128#32 + iota .tc S128x128 32 [0] iota_S128x128_d0_w32 j) * 128#32
    + iota .tc S128x128 32 [1] iota_S128x128_d1_w32 j).toInt : ℝ) : EReal) * _ = _
  rw [iota_single_apply, iota_single_apply]
  simp only [← BitVec.ofNat_add, ← BitVec.ofNat_mul]
  rfl

/-- The last-spike block. -/
theorem pay3_apply (i : grid0.Coords) (x : Vec Ideal S128x128 .f32) (j : S128x128.Idx) :
    k0_pay3 i x j = last (x j) (((i 0).val * 128 + (j 0).val) * 128 + (j 1).val) := by
  show Scalar.select (Ideal.cmp .ogt (shapeCast S128x128 x shapeCasts_S128x128_S128x128 j) (Ideal.ofBits .f32 0x00000000#32)) (k0_pay1 (F := Ideal) i j) (Ideal.ofBits .f32 0xFF800000#32) = _
  rw [shapeCast_self, pay1_apply, zero_bits, neg_inf_bits]
  unfold last
  by_cases h : 0 < x j <;> simp [h, Scalar.select, Ideal.cmp]

/-- The transposed phases at a lane of a block. -/
theorem pay21_apply (g : ℕ) (hg : g < 4) (j : S8x16384.Idx) :
    k0_pay21 (F := Ideal) (BitVec.ofNat 32 g) j = (ph (g * 16384 + (j 1).val) : EReal) := by
  have h1 : (j 1).val < 16384 := (j 1).isLt
  rw [← phase_word _ (by omega)]
  show Ideal.ofBits .f32 0x3E80ADFD#32 + (((BitVec.ofNat 32 g * 16384#32 + iota .tc S8x16384 32 [1] iota_S8x16384_d1_w32 j).toInt : ℝ) : EReal) * _ = _
  rw [iota_single_apply]
  simp only [← BitVec.ofNat_add, ← BitVec.ofNat_mul]
  rfl

/-- The single row at the column of an index. -/
def row0 (j : S8x16384.Idx) : S1x16384.Idx := fun a => match a with
  | ⟨0, _⟩ => ⟨0, Nat.one_pos⟩
  | ⟨1, _⟩ => ⟨(j 1).val, (j 1).isLt⟩

/-- The transposed bins block. -/
theorem pay22_apply (g : ℕ) (hg : g < 4) (x : Vec Ideal S1x16384 .f32) (j : S8x16384.Idx) :
    k0_pay22 (BitVec.ofNat 32 g) x j = cell (x (row0 j)) (g * 16384 + (j 1).val) (j 0).val := by
  have h0 : (j 0).val < 8 := (j 0).isLt
  have e1 : broadcastTo S8x16384 (shapeCast S1x16384 (cmpf .ogt (shapeCast S1x16384 x shapeCasts_S1x16384_S1x16384)
      (broadcast S1x16384 (Scalar.ofBits (F := Ideal) .f32 0x00000000#32))) shapeCasts_S1x16384_S1x16384) broadcasts_S1x16384_S8x16384 j
      = BitVec.ofBool (decide (0 < x (row0 j))) := by
    rw [broadcastTo_apply _ _ j (row0 j) (fun a => by fin_cases a <;> rfl), shapeCast_self, shapeCast_self]
    show Ideal.cmp .ogt (x (row0 j)) (Ideal.ofBits .f32 0x00000000#32) = _
    rw [zero_bits]
    rfl
  show Scalar.select (IntOp.andi (broadcastTo S8x16384 (shapeCast S1x16384 (cmpf .ogt (shapeCast S1x16384 x shapeCasts_S1x16384_S1x16384)
      (broadcast S1x16384 (Scalar.ofBits (F := Ideal) .f32 0x00000000#32))) shapeCasts_S1x16384_S1x16384) broadcasts_S1x16384_S8x16384 j)
      (Ideal.cmp .oeq (FloatOps.floor (F := Ideal) (φ := .f32) (Ideal.div (k0_pay21 (F := Ideal) (BitVec.ofNat 32 g) j) (Ideal.ofBits .f32 0x40C90FDB#32) * Ideal.ofBits .f32 0x41000000#32))
        (((iota .tc S8x16384 32 [0] iota_S8x16384_d0_w32 j).toInt : ℝ) : EReal)))
      (Ideal.ofBits .f32 0x3F733333#32) (Ideal.ofBits .f32 0x00000000#32) = _
  rw [e1, pay21_apply g hg, floor_bin, iota_single_apply, toInt_small _ (by omega), cmp_bin, conf_bits, zero_bits]
  unfold cell
  by_cases h : 0 < x (row0 j) <;> by_cases h' : bin (g * 16384 + (j 1).val) = (j 0).val <;> simp [h, h', Scalar.select, IntOp.andi, conf]

/-- The table's column `c` picks this row. -/
def src (c : ℕ) : ℕ := 16 * (c / 128) + c % 128 / 8

/-- Row `r` and column `c` of a 128 by 128 block. -/
def ix (r c : ℕ) (hr : r < 128) (hc : c < 128) : S128x128.Idx := fun a => match a with
  | ⟨0, _⟩ => ⟨r, hr⟩
  | ⟨1, _⟩ => ⟨c, hc⟩

/-- Equal columns give the same index. -/
theorem ix_congr (r c c' : ℕ) (hr : r < 128) (hc : c < 128) (hc' : c' < 128) (h : c = c') : ix r c hr hc = ix r c' hr hc' := by
  subst h
  rfl

/-- The spike block as ones and zeros. -/
theorem mask_word (x : EReal) : ((((Ideal.cmp .ogt x 0).setWidth 32).toInt : ℝ) : EReal) = if 0 < x then 1 else 0 := by
  by_cases h : 0 < x <;> simp [h, Ideal.cmp]

/-- The product with the table copies columns: at column `c` it holds the spike flag of column `src c`. -/
theorem pay4_apply (x : Vec Ideal S128x128 .f32) (T : FVec Ideal S128x1024 .f32)
    (hT : ∀ k : S128x1024.Idx, T k = if (k 0).val = src (k 1).val then (1 : EReal) else 0)
    (j : S128x1024.Idx) (hs : src (j 1).val < 128) :
    k0_pay4 x T j = if 0 < x (ix (j 0).val (src (j 1).val) (j 0).isLt hs) then (1 : EReal) else 0 := by
  set d := dot_S128x128_S128x1024_S128x1024_1_0_0_1_n_n with hd
  show FloatOps.matmul (F := Ideal) d none (sitofp .f32 (extui 32 (cmpf .ogt (k0_pay2 x) (broadcast S128x128 (Scalar.ofBits (F := Ideal) .f32 0x00000000#32))) natLt_1_32)) (T : FVec Ideal S128x1024 .f32)
    (constant S128x1024 .f32 0x00000000#32) j = _
  rw [Ideal.matmul_constant_zero_apply]
  have key : ∀ q : d.contr.Idx,
      (sitofp .f32 (extui 32 (cmpf .ogt (k0_pay2 x) (broadcast S128x128 (Scalar.ofBits (F := Ideal) .f32 0x00000000#32))) natLt_1_32) : FVec Ideal S128x128 .f32) (d.lhsIdx j q) * T (d.rhsIdx j q)
        = (fun k : ℕ => if k = src (j 1).val then (if 0 < x (ix (j 0).val (src (j 1).val) (j 0).isLt hs) then (1 : EReal) else 0) else 0) (q ⟨0, Nat.one_pos⟩).val := by
    intro q
    have hq : (q ⟨0, Nat.one_pos⟩).val < 128 := (q ⟨0, Nat.one_pos⟩).isLt
    have el : d.lhsIdx j q = ix (j 0).val (q ⟨0, Nat.one_pos⟩).val (j 0).isLt hq := by
      funext a
      fin_cases a <;> rfl
    have er0 : ((d.rhsIdx j q) 0).val = (q ⟨0, Nat.one_pos⟩).val := rfl
    have er1 : ((d.rhsIdx j q) 1).val = (j 1).val := rfl
    rw [hT, er0, er1, el]
    show ((((Ideal.cmp .ogt (shapeCast S128x128 x shapeCasts_S128x128_S128x128 _) (Ideal.ofBits .f32 0x00000000#32)).setWidth 32).toInt : ℝ) : EReal) * _ = _
    rw [shapeCast_self, zero_bits, mask_word]
    by_cases h : (q ⟨0, Nat.one_pos⟩).val = src (j 1).val
    · rw [if_pos h, mul_one]
      exact (congrArg (fun z => if 0 < x z then (1 : EReal) else 0) (ix_congr (j 0).val _ _ (j 0).isLt hq hs h)).trans (if_pos h).symm
    · simp only [h, if_false, mul_zero]
  rw [Finset.sum_congr rfl fun q _ => key q]
  refine (Fin.sum_idx1_range dot_S128x128_S128x1024_S128x1024_1_0_0_1_n_n.contr.size
    (fun k : ℕ => if k = src (j 1).val then (if 0 < x (ix (j 0).val (src (j 1).val) (j 0).isLt hs) then (1 : EReal) else 0) else 0)).trans ?_
  rw [Finset.sum_ite_eq' (Finset.range _)]
  exact if_pos (Finset.mem_range.2 hs)

/-- One of the eight stored pieces, from the spike flags `v`, the block number `g` and the piece's first lane. -/
def piece (v : FVec Ideal S128x1024 .f32) (g o : BitVec 32) (off : Fin 2 → ℕ) (h : S128x1024.Slices off S128x128) :
    FVec Ideal S2x128x1x8x128 .f32 :=
  shapeCast S2x128x1x8x128 (broadcastTo S2x128x8x128 (shapeCast S1x128x1x128 (shapeCast S1x128x1x128
    (mulf (extractStridedSlice S128x128 off v h) (mulf (broadcast S128x128 (Scalar.ofBits (F := Ideal) .f32 0x3F733333#32)) (sitofp .f32 (extui 32 (cmpf .oeq
      (floor (mulf (divf (addf (broadcast S128x128 (Scalar.ofBits (F := Ideal) .f32 0x3E80ADFD#32)) (mulf (sitofp .f32
        (addi (addi (muli (addi (broadcast S128x128 (Scalar.muli g 128#32)) (iota .tc S128x128 32 [0] iota_S128x128_d0_w32)) (broadcast S128x128 128#32)) (broadcast S128x128 o))
          (shrsi (iota .tc S128x128 32 [1] iota_S128x128_d1_w32) (broadcast S128x128 3#32))))
        (broadcast S128x128 (Named.named (F := Ideal) (φ := .f32) κ "step" 0x374910A4#32)))) (broadcast S128x128 (Scalar.ofBits (F := Ideal) .f32 0x40C90FDB#32))) (broadcast S128x128 (Scalar.ofBits (F := Ideal) .f32 0x41000000#32))))
      k0_pay5) natLt_1_32))))
    shapeCasts_S128x128_S1x128x1x128) shapeCasts_S1x128x1x128_S1x128x1x128) broadcasts_S1x128x1x128_S2x128x8x128) shapeCasts_S2x128x8x128_S2x128x1x8x128

/-- The same four-axis block index without the unit axis. -/
def ix4 (j : S2x128x1x8x128.Idx) : S2x128x8x128.Idx := fun a => match a with
  | ⟨0, _⟩ => ⟨(j 0).val, (j 0).isLt⟩
  | ⟨1, _⟩ => ⟨(j 1).val, (j 1).isLt⟩
  | ⟨2, _⟩ => ⟨(j 3).val, (j 3).isLt⟩
  | ⟨3, _⟩ => ⟨(j 4).val, (j 4).isLt⟩

/-- A row and a column placed between unit axes. -/
def ix1 (b c : ℕ) (hb : b < 128) (hc : c < 128) : S1x128x1x128.Idx := fun a => match a with
  | ⟨0, _⟩ => ⟨0, Nat.one_pos⟩
  | ⟨1, _⟩ => ⟨b, hb⟩
  | ⟨2, _⟩ => ⟨0, Nat.one_pos⟩
  | ⟨3, _⟩ => ⟨c, hc⟩

/-- A block copied along the two new axes holds, at an index, the block's entry at the row and the column. -/
theorem spread_apply (v : FVec Ideal S128x128 .f32) (j : S2x128x1x8x128.Idx) :
    shapeCast S2x128x1x8x128 (broadcastTo S2x128x8x128 (shapeCast S1x128x1x128 (shapeCast S1x128x1x128 v
      shapeCasts_S128x128_S1x128x1x128) shapeCasts_S1x128x1x128_S1x128x1x128) broadcasts_S1x128x1x128_S2x128x8x128) shapeCasts_S2x128x8x128_S2x128x1x8x128 j
      = v (ix (j 1).val (j 4).val (j 1).isLt (j 4).isLt) := by
  have h2 : (j 2).val < 1 := (j 2).isLt
  rw [shapeCast_apply _ _ j (ix4 j) (by
      rw [Shape.rowMajor_val_four, Shape.rowMajor_val_five]
      show (((j 0).val * 128 + (j 1).val) * 8 + (j 3).val) * 128 + (j 4).val = ((((j 0).val * 128 + (j 1).val) * 1 + (j 2).val) * 8 + (j 3).val) * 128 + (j 4).val
      omega),
    broadcastTo_apply _ _ (ix4 j) (ix1 (j 1).val (j 4).val (j 1).isLt (j 4).isLt) (fun a => by fin_cases a <;> rfl), shapeCast_self,
    shapeCast_apply _ _ (ix1 (j 1).val (j 4).val (j 1).isLt (j 4).isLt) (ix (j 1).val (j 4).val (j 1).isLt (j 4).isLt) (by
      rw [Shape.rowMajor_val_two, Shape.rowMajor_val_four]
      show (j 1).val * 128 + (j 4).val = ((0 * 128 + (j 1).val) * 1 + 0) * 128 + (j 4).val
      omega)]

/-- Row `r` and column `c` of the wide block. -/
def ixw (r c : ℕ) (hr : r < 128) (hc : c < 1024) : S128x1024.Idx := fun a => match a with
  | ⟨0, _⟩ => ⟨r, hr⟩
  | ⟨1, _⟩ => ⟨c, hc⟩

/-- A piece at an index: the bins of the lanes `16 * r` to `16 * r + 15` of each row, eight columns a lane. -/
theorem piece_apply (x : Vec Ideal S128x128 .f32) (T : FVec Ideal S128x1024 .f32)
    (hT : ∀ k : S128x1024.Idx, T k = if (k 0).val = src (k 1).val then (1 : EReal) else 0)
    (g r : ℕ) (hg : g < 4) (hr : r < 8) (h : S128x1024.Slices ![0, 128 * r] S128x128) (j : S2x128x1x8x128.Idx) (hl : 16 * r + (j 4).val / 8 < 128) :
    piece (k0_pay4 x T) (BitVec.ofNat 32 g) (BitVec.ofNat 32 (16 * r)) ![0, 128 * r] h j
      = cell (x (ix (j 1).val (16 * r + (j 4).val / 8) (j 1).isLt hl)) ((g * 128 + (j 1).val) * 128 + (16 * r + (j 4).val / 8)) ((j 4).val % 8) := by
  have h1 : (j 1).val < 128 := (j 1).isLt
  have h4 : (j 4).val < 128 := (j 4).isLt
  unfold piece
  rw [spread_apply]
  show (extractStridedSlice S128x128 ![0, 128 * r] (k0_pay4 x T) h (ix (j 1).val (j 4).val (j 1).isLt (j 4).isLt) : EReal)
    * (Ideal.ofBits .f32 0x3F733333#32 * ((((Ideal.cmp .oeq (FloatOps.floor (F := Ideal) (φ := .f32)
      (Ideal.div (Ideal.ofBits .f32 0x3E80ADFD#32 + ((((((BitVec.ofNat 32 g * 128#32 + iota .tc S128x128 32 [0] iota_S128x128_d0_w32 (ix (j 1).val (j 4).val (j 1).isLt (j 4).isLt)) * 128#32
        + BitVec.ofNat 32 (16 * r)) + IntOp.shrsi .vector (iota .tc S128x128 32 [1] iota_S128x128_d1_w32 (ix (j 1).val (j 4).val (j 1).isLt (j 4).isLt)) 3#32).toInt : ℝ) : EReal)
          * Named.named (F := Ideal) (φ := .f32) κ "step" 0x374910A4#32)) (Ideal.ofBits .f32 0x40C90FDB#32) * Ideal.ofBits .f32 0x41000000#32))
      (((IntOp.andi (iota .tc S128x128 32 [1] iota_S128x128_d1_w32 (ix (j 1).val (j 4).val (j 1).isLt (j 4).isLt)) 7#32).toInt : ℝ) : EReal)).setWidth 32).toInt : ℝ) : EReal)) = _
  have hs : src (128 * r + (j 4).val) = 16 * r + (j 4).val / 8 := by unfold src; omega
  have hc : 128 * r + (j 4).val < 1024 := by omega
  have hv : extractStridedSlice S128x128 ![0, 128 * r] (k0_pay4 x T) h (ix (j 1).val (j 4).val (j 1).isLt (j 4).isLt)
      = if 0 < x (ix (j 1).val (16 * r + (j 4).val / 8) (j 1).isLt hl) then (1 : EReal) else 0 := by
    rw [extractStridedSlice_apply _ _ _ _ (ixw (j 1).val (128 * r + (j 4).val) h1 hc) (fun a => by
        fin_cases a
        · exact (Nat.zero_add _).symm
        · rfl), pay4_apply x T hT _ (hs.trans_lt hl)]
    exact congrArg (fun z => if 0 < x z then (1 : EReal) else 0) (ix_congr (j 1).val _ _ (j 1).isLt _ hl hs)
  rw [hv, iota_single_apply, iota_single_apply]
  simp only [ix]
  rw [shift_word _ h4, low_word _ h4, lane_word, phase_word _ (by omega), floor_bin, cmp_bin, conf_bits]
  rw [Nat.add_assoc ((g * 128 + (j 1).val) * 128)]
  unfold cell
  by_cases p : 0 < x (ix (j 1).val (16 * r + (j 4).val / 8) (j 1).isLt hl) <;>
    by_cases q : bin ((g * 128 + (j 1).val) * 128 + (16 * r + (j 4).val / 8)) = (((j 4).val % 8 : ℕ) : ℤ)
  · rw [if_pos p, if_pos ⟨p, q⟩, decide_eq_true q]
    simp [conf]
  · rw [if_neg (fun c : _ ∧ _ => q c.2), decide_eq_false q]
    simp
  · rw [if_neg p, if_neg (fun c : _ ∧ _ => p c.1), zero_mul]
  · rw [if_neg p, if_neg (fun c : _ ∧ _ => p c.1), zero_mul]

/-- The first stored piece. -/
theorem piece0 (v : FVec Ideal S128x1024 .f32) (i : grid0.Coords) :
    k0_pay7 (iota .tc S128x128 32 [1] iota_S128x128_d1_w32) v k0_pay5 (k0_pay6 i) = piece v (BitVec.ofNat 32 (i 0).val) (BitVec.ofNat 32 (16 * 0)) ![0, 128 * 0] slices_S128x1024_o0_0_S128x128 := rfl

/-- The second stored piece. -/
theorem piece1 (v : FVec Ideal S128x1024 .f32) (g : BitVec 32) :
    k0_pay9 v k0_pay5 (k0_pay8 g (iota .tc S128x128 32 [0] iota_S128x128_d0_w32) (iota .tc S128x128 32 [1] iota_S128x128_d1_w32)) (Scalar.ofBits .f32 0x40C90FDB#32)
      = piece v g (BitVec.ofNat 32 (16 * 1)) ![0, 128 * 1] slices_S128x1024_o0_128_S128x128 := rfl

/-- The third stored piece. -/
theorem piece2 (v : FVec Ideal S128x1024 .f32) (g : BitVec 32) :
    k0_pay11 v (k0_pay10 g (iota .tc S128x128 32 [0] iota_S128x128_d0_w32) (iota .tc S128x128 32 [1] iota_S128x128_d1_w32) k0_pay5)
      = piece v g (BitVec.ofNat 32 (16 * 2)) ![0, 128 * 2] slices_S128x1024_o0_256_S128x128 := rfl

/-- The fourth stored piece. -/
theorem piece3 (v : FVec Ideal S128x1024 .f32) (g : BitVec 32) :
    k0_pay13 (k0_pay12 g (iota .tc S128x128 32 [0] iota_S128x128_d0_w32) (iota .tc S128x128 32 [1] iota_S128x128_d1_w32) v k0_pay5)
      = piece v g (BitVec.ofNat 32 (16 * 3)) ![0, 128 * 3] slices_S128x1024_o0_384_S128x128 := rfl

/-- The fifth stored piece. -/
theorem piece4 (v : FVec Ideal S128x1024 .f32) (g : BitVec 32) :
    k0_pay14 g (iota .tc S128x128 32 [0] iota_S128x128_d0_w32) (iota .tc S128x128 32 [1] iota_S128x128_d1_w32) v k0_pay5
      = piece v g (BitVec.ofNat 32 (16 * 4)) ![0, 128 * 4] slices_S128x1024_o0_512_S128x128 := rfl

/-- The sixth stored piece. -/
theorem piece5 (v : FVec Ideal S128x1024 .f32) (g : BitVec 32) :
    k0_pay16 (iota .tc S128x128 32 [1] iota_S128x128_d1_w32) v k0_pay5 (k0_pay15 g (iota .tc S128x128 32 [0] iota_S128x128_d0_w32))
      = piece v g (BitVec.ofNat 32 (16 * 5)) ![0, 128 * 5] slices_S128x1024_o0_640_S128x128 := rfl

/-- The seventh stored piece. -/
theorem piece6 (v : FVec Ideal S128x1024 .f32) (g : BitVec 32) :
    k0_pay18 v k0_pay5 (k0_pay17 g (iota .tc S128x128 32 [0] iota_S128x128_d0_w32) (iota .tc S128x128 32 [1] iota_S128x128_d1_w32)) (Scalar.ofBits .f32 0x40C90FDB#32)
      = piece v g (BitVec.ofNat 32 (16 * 6)) ![0, 128 * 6] slices_S128x1024_o0_768_S128x128 := rfl

/-- The eighth stored piece. -/
theorem piece7 (v : FVec Ideal S128x1024 .f32) (g : BitVec 32) :
    k0_pay20 v (k0_pay19 g (iota .tc S128x128 32 [0] iota_S128x128_d0_w32) (iota .tc S128x128 32 [1] iota_S128x128_d1_w32) k0_pay5)
      = piece v g (BitVec.ofNat 32 (16 * 7)) ![0, 128 * 7] slices_S128x1024_o0_896_S128x128 := rfl

end Cert.Payload

end
-- ==== Proof.Table.lean ====
/- The kernel's first table in closed form. -/
module

public import proofs.«01_k».proof.KernelIdeal

@[expose] public section

set_option maxRecDepth 16384

/-! The table has 128 rows and 1024 columns.  Its printed text is cut into 1024 chunks of 128 entries: chunk `128 * q + s`
    holds columns `128 * (s % 8)` onwards of row `16 * q + s / 8`.  Only chunks with `s % 8 = q` hold ones. -/

noncomputable section

namespace Cert.Table

open Cert.KernelIdeal

/-- The sixteen patterns of a chunk that holds ones. -/
def pat (a i : ℕ) : BitVec 32 := match a with
  | 0 => lit0t0_0 i
  | 1 => lit0t0_8 i
  | 2 => lit0t0_16 i
  | 3 => lit0t0_24 i
  | 4 => lit0t0_32 i
  | 5 => lit0t0_40 i
  | 6 => lit0t0_48 i
  | 7 => lit0t0_56 i
  | 8 => lit0t0_64 i
  | 9 => lit0t0_72 i
  | 10 => lit0t0_80 i
  | 11 => lit0t0_88 i
  | 12 => lit0t0_96 i
  | 13 => lit0t0_104 i
  | 14 => lit0t0_112 i
  | _ => lit0t0_120 i

/-- What chunk `128 * q + s` holds: a pattern when `s % 8 = q`, zeros otherwise. -/
def sel (q s i : ℕ) : BitVec 32 := bif s % 8 == q then pat (s / 8) i else lit0t0_1 i

set_option maxHeartbeats 4000000 in
/-- Every chunk of the table holds its pattern or zeros. -/
theorem chunk (i q s : ℕ) (hq : q < 8) (hs : s < 128) (h1 : i / 16384 = q) (h2 : i / 128 % 128 = s) :
    lit0t i = sel q s i := by
  unfold lit0t
  rw [h1]
  clear h1
  interval_cases q <;>
    (delta lit0t1_0 lit0t1_1 lit0t1_2 lit0t1_3 lit0t1_4 lit0t1_5 lit0t1_6 lit0t1_7
     rw [h2]
     clear h2
     interval_cases s <;> exact rfl)

/-- A pattern reads only its index's remainder by 128. -/
theorem pat_mod (a i : ℕ) : pat a i = pat a (i % 128) := by
  unfold pat
  split <;>
    (delta lit0t0_0 lit0t0_8 lit0t0_16 lit0t0_24 lit0t0_32 lit0t0_40 lit0t0_48 lit0t0_56 lit0t0_64 lit0t0_72 lit0t0_80 lit0t0_88 lit0t0_96 lit0t0_104 lit0t0_112 lit0t0_120
     rw [Nat.mod_mod])

/-- A chunk of zeros holds zeros. -/
theorem zero_chunk (i : ℕ) : lit0t0_1 i = 0#32 := by
  have h : i % 128 < 128 := Nat.mod_lt _ (by omega)
  delta lit0t0_1
  generalize i % 128 = l at h ⊢
  interval_cases l <;> exact rfl

/-- Pattern `a` holds the word of one at entries `8 * a` to `8 * a + 7`, checked entry by entry. -/
theorem pat_ok : ∀ a < 16, ∀ l < 128, (pat a l).toNat = bif l / 8 == a then 0x3F800000 else 0 := by decide +kernel

/-- The table at row `k` and column `c` is the word of one when `k = 16 * (c / 128) + c % 128 / 8`, else the word of
    zero. -/
theorem lit0t_eq (k c : ℕ) (hk : k < 128) (hc : c < 1024) :
    lit0t (k * 1024 + c) = if k = 16 * (c / 128) + c % 128 / 8 then 0x3F800000#32 else 0#32 := by
  rw [chunk (k * 1024 + c) (k / 16) (k % 16 * 8 + c / 128) (by omega) (by omega) (by omega) (by omega)]
  unfold sel
  rw [show (k % 16 * 8 + c / 128) % 8 = c / 128 by omega, show (k % 16 * 8 + c / 128) / 8 = k % 16 by omega]
  by_cases e : c / 128 = k / 16
  · rw [beq_iff_eq.2 e, cond_true, pat_mod, show (k * 1024 + c) % 128 = c % 128 by omega]
    apply BitVec.eq_of_toNat_eq
    rw [pat_ok _ (by omega) _ (by omega)]
    by_cases e' : c % 128 / 8 = k % 16
    · rw [beq_iff_eq.2 e', if_pos (by omega)]
      rfl
    · rw [beq_eq_false_iff_ne.2 e', if_neg (by omega)]
      rfl
  · rw [beq_eq_false_iff_ne.2 e, cond_false, zero_chunk, if_neg (by omega)]

end Cert.Table

end
-- ==== Proof.Arrays.lean ====
/- The kernel's result arrays after its run, index by index. -/
module

public import proofs.«01_k».proof.Proof.Payload
public import proofs.«01_k».proof.Proof.Table
public import proofs.«01_k».proof.Proof.Gen.KernelIdeal.Frame
public import Idealize.ShloMosaic.Lib.Claim
public import Idealize.ShloMosaic.Lib.StableHlo.ReadAt

@[expose] public section

set_option maxRecDepth 16384

noncomputable section

namespace Cert.Arrays

open Idealize.ShloMosaic Idealize.ShloMosaic.TcCoe Idealize.SL.Sem
open Idealize.ShloMosaic.Pipeline (Dat)
open Cert.KernelIdeal Cert.KernelIdeal.Gen Cert.Spec Cert.Consts Cert.Payload

variable (m : (ℓ : Loc nD τ sig) → Buf (Elt Ideal) ℓ) (c : Dev nD)

/-- The spike argument of a core. -/
abbrev spikes : S16x65536.Idx → EReal := m ((c : Thread nD τ).loc main_arg0)

/-- Lane `n`'s spike. -/
def spk (n : ℕ) : EReal := spikes m c (lane (n % 65536) (Nat.mod_lt _ (Nat.zero_lt_succ 65535)))

/-- Equal lanes have equal spikes. -/
theorem spk_lane (n : ℕ) (h : n < 65536) : spikes m c (lane n h) = spk m c n := by
  unfold spk
  have : n % 65536 = n := Nat.mod_eq_of_lt h
  congr 1
  funext a
  match a with
  | ⟨0, _⟩ => rfl
  | ⟨1, _⟩ => exact Fin.ext this.symm

/-- Entry `n` of the flat row. -/
def ixf (n : ℕ) (h : n < 65536) : S65536.Idx := fun a => match a with
  | ⟨0, _⟩ => ⟨n, h⟩

/-- Column `n` of the single row. -/
def ixr (n : ℕ) (h : n < 65536) : S1x65536.Idx := fun a => match a with
  | ⟨0, _⟩ => ⟨0, Nat.one_pos⟩
  | ⟨1, _⟩ => ⟨n, h⟩

/-- The window of spikes in square form. -/
theorem v2_apply (k : S512x128.Idx) : V m c main_v2 k = spk m c ((k 0).val * 128 + (k 1).val) := by
  have h0 : (k 0).val < 512 := (k 0).isLt
  have h1 : (k 1).val < 128 := (k 1).isLt
  have h : (k 0).val * 128 + (k 1).val < 65536 := by omega
  rw [← spk_lane m c _ h]
  show StableHlo.after hostOps0 (fun b => m (c, b)) (Proc.devRef .tc main_v2) k = _
  after_reads_simp
  show shapeCast S512x128 (shapeCast S65536 (extractStridedSlice S1x65536 ![0, 0] (spikes m c) slices_S16x65536_S1x65536_0_0)
    shapeCasts_S1x65536_S65536) shapeCasts_S65536_S512x128 k = _
  rw [shapeCast_apply _ _ k (ixf _ h) (by rw [Shape.rowMajor_val_one, Shape.rowMajor_val_two]; rfl),
    shapeCast_apply _ _ (ixf _ h) (ixr _ h) (by
      rw [Shape.rowMajor_val_one, Shape.rowMajor_val_two]
      show 0 * 65536 + ((k 0).val * 128 + (k 1).val) = (k 0).val * 128 + (k 1).val
      omega),
    extractStridedSlice_apply _ _ _ (ixr _ h) (lane _ h) (fun a => by
      fin_cases a
      · rfl
      · exact (Nat.zero_add _).symm)]

/-- The window of spikes as one row. -/
theorem v3_apply (k : S1x65536.Idx) : V m c main_v3 k = spk m c (k 1).val := by
  have h : (k 1).val < 65536 := (k 1).isLt
  rw [← spk_lane m c _ h]
  show StableHlo.after hostOps0 (fun b => m (c, b)) (Proc.devRef .tc main_v3) k = _
  after_reads_at
  refine congrArg (spikes m c) (funext fun a => ?_)
  match a with
  | ⟨0, _⟩ => rfl
  | ⟨1, _⟩ => rfl

/-- The table. -/
theorem cst_apply (k : S128x1024.Idx) :
    V m c main_cst k = if (k 0).val = src (k 1).val then (1 : EReal) else 0 := by
  have h0 : (k 0).val < 128 := (k 0).isLt
  have h1 : (k 1).val < 1024 := (k 1).isLt
  show StableHlo.after hostOps0 (fun b => m (c, b)) (Proc.devRef .tc main_cst) k = _
  after_reads_simp
  have e : lit0 (S128x1024.rowMajor k) = lit0t ((k 0).val * 1024 + (k 1).val) := by
    have := Shape.rowMajor_val_two k
    show lit0t (S128x1024.rowMajor k).val = _
    exact congrArg lit0t this
  rw [e, Cert.Table.lit0t_eq _ _ h0 h1]
  show Ideal.ofBits .f32 (if (k 0).val = src (k 1).val then 0x3F800000#32 else 0#32) = _
  split
  · exact one_bits
  · exact zero_bits

/-- The point's coordinate is its number. -/
theorem coords_val (t : Fin cfg0.N) : (grid0.coords t 0).val = t.val := by
  rcases fin_N0 t with rfl | rfl | rfl | rfl <;> rfl

/-- The spike block of a point. -/
theorem blk0_apply (t : Fin cfg0.N) (y : S128x128.Idx) :
    iblk m c 0 t y = spk m c (((grid0.coords t 0).val * 128 + (y 0).val) * 128 + (y 1).val) := by
  have e : ∀ t : Fin cfg0.N, win0_0.index t = ![(grid0.coords t 0).val, 0] := by decide +kernel
  blk_simp [iblk]
  rw [v2_apply]
  blk_simp [e]

/-- The spike row of a point. -/
theorem blk1_apply (t : Fin cfg0.N) (y : S1x16384.Idx) :
    iblk m c 1 t y = spk m c ((grid0.coords t 0).val * 16384 + (y 1).val) := by
  have e : ∀ t : Fin cfg0.N, win0_1.index t = ![0, (grid0.coords t 0).val] := by decide +kernel
  blk_simp [iblk]
  rw [v3_apply]
  blk_simp [e]

/-- The table at a point. -/
theorem blk2_apply (t : Fin cfg0.N) (y : S128x1024.Idx) :
    iblk m c 2 t y = if (y 0).val = src (y 1).val then (1 : EReal) else 0 := by
  have e : ∀ t : Fin cfg0.N, win0_2.index t = ![0, 0] := by decide +kernel
  blk_simp [iblk]
  rw [cst_apply]
  blk_simp [e]

/-- The phases array. -/
theorem final7 : (dats m 0 c).arrAt 7 cfg0.N = fun i : S512x128.Idx => (ph ((i 0).val * 128 + (i 1).val) : EReal) := by
  refine (dats m 0 c).arrAt_eq_of_covers 7 _ (by decide +kernel) fun t hf y => ?_
  have e : ∀ t : Fin cfg0.N, win0_7.index t = ![(grid0.coords t 0).val, 0] := by decide +kernel
  blk_simp [e]
  rw [after0_7]
  frame_out
  exact pay1_apply _ _

/-- The last-spike array. -/
theorem final8 : (dats m 0 c).arrAt 8 cfg0.N = fun i : S512x128.Idx => last (spk m c ((i 0).val * 128 + (i 1).val)) ((i 0).val * 128 + (i 1).val) := by
  refine (dats m 0 c).arrAt_eq_of_covers 8 _ (by decide +kernel) fun t hf y => ?_
  have e : ∀ t : Fin cfg0.N, win0_8.index t = ![(grid0.coords t 0).val, 0] := by decide +kernel
  blk_simp [e]
  rw [after0_8]
  frame_out
  rw [pay3_apply, blk0_apply]

/-- The transposed bins array. -/
theorem final6 : (dats m 0 c).arrAt 6 cfg0.N = fun i : S8x65536.Idx => cell (spk m c (i 1).val) (i 1).val (i 0).val := by
  refine (dats m 0 c).arrAt_eq_of_covers 6 _ (by decide +kernel) fun t hf y => ?_
  have e : ∀ t : Fin cfg0.N, win0_6.index t = ![0, (grid0.coords t 0).val] := by decide +kernel
  blk_simp [e]
  rw [after0_6]
  frame_out
  rw [pay22_apply _ (grid0.coords t 0).isLt, blk1_apply]
  rfl

/-- The lane an index of the five-axis array stands for. -/
abbrev lane5 (i : S2x512x8x8x128.Idx) : ℕ := (i 1).val * 128 + (16 * (i 2).val + (i 4).val / 8)

/-- One stored piece agrees with the array's closed form. -/
theorem piece_at (t : Fin cfg0.N) (r : ℕ) (hr : r < 8) (h : S128x1024.Slices ![0, 128 * r] S128x128)
    (g : ℕ) (hg : g = (grid0.coords t 0).val) (j : S2x128x1x8x128.Idx) :
    piece (k0_pay4 (iblk m c 0 t) (iblk m c 2 t)) (BitVec.ofNat 32 g) (BitVec.ofNat 32 (16 * r)) ![0, 128 * r] h j
      = cell (spk m c ((g * 128 + (j 1).val) * 128 + (16 * r + (j 4).val / 8))) ((g * 128 + (j 1).val) * 128 + (16 * r + (j 4).val / 8)) ((j 4).val % 8) := by
  have h4 : (j 4).val < 128 := (j 4).isLt
  subst hg
  rw [piece_apply (iblk m c 0 t) (iblk m c 2 t) (blk2_apply m c t) _ r (grid0.coords t 0).isLt hr h j (by omega), blk0_apply]
  rfl

/-- Two spellings of a stored cell. -/
theorem same_cell (g r : ℕ) (x : S2x128x1x8x128.Idx) (z : S2x128x8x8x128.Idx) (h1 : (z 1).val = (x 1).val) (h2 : (z 2).val = r)
    (h4 : (z 4).val = (x 4).val) :
    cell (spk m c ((g * 128 + (x 1).val) * 128 + (16 * r + (x 4).val / 8))) ((g * 128 + (x 1).val) * 128 + (16 * r + (x 4).val / 8)) ((x 4).val % 8)
      = cell (spk m c ((g * 128 + (z 1).val) * 128 + (16 * (z 2).val + (z 4).val / 8))) ((g * 128 + (z 1).val) * 128 + (16 * (z 2).val + (z 4).val / 8)) ((z 4).val % 8) := by
  rw [h1, h2, h4]

/-- Along an axis where a rectangle starts at zero an index keeps its coordinate. -/
theorem emb_at (off size : Fin 5 → ℕ) (inb : ∀ a, off a + size a ≤ S2x128x8x8x128.size a)
    (x : (Rect.unit (s := S2x128x8x8x128) off size inb).shape.Idx) (a : Fin 5) (h : off a = 0) :
    (((Rect.unit (s := S2x128x8x8x128) off size inb).emb x) a).val = (x a).val := by
  rw [ValueKit.rect_emb_unit_val, h, Nat.zero_add]

/-- Along the stored row's axis an index is the row's number. -/
theorem emb_unit (r : ℕ) (off : Fin 5 → ℕ) (inb : ∀ a, off a + S2x128x1x8x128.size a ≤ S2x128x8x8x128.size a) (h : off 2 = r)
    (x : S2x128x1x8x128.Idx) :
    (((Rect.unit (s := S2x128x8x8x128) off S2x128x1x8x128.size inb).emb x) 2).val = r := by
  have h2 : (x 2).val < 1 := (x 2).isLt
  rw [ValueKit.rect_emb_unit_val, h]
  omega

/-- The bins array in five axes. -/
theorem final5 : (dats m 0 c).arrAt 5 cfg0.N = fun i : S2x512x8x8x128.Idx => cell (spk m c (lane5 i)) (lane5 i) ((i 4).val % 8) := by
  refine (dats m 0 c).arrAt_eq_of_covers 5 _ (by decide +kernel) fun t hf y => ?_
  have e : ∀ t : Fin cfg0.N, win0_5.index t = ![0, (grid0.coords t 0).val, 0, 0, 0] := by decide +kernel
  blk_simp [e]
  rw [after0_5]
  have hz : (![0, 0] : Fin 2 → Nat) = fun _ => 0 := funext fun a => by fin_cases a <;> rfl
  unfold_out out0_5
  rw [View.ld_unit_zero hz, View.ld_unit_zero hz]
  rw [piece0, piece1, piece2, piece3, piece4, piece5, piece6, piece7]
  refine (View.canon_apply_of_pieces (fun z : S2x128x8x8x128.Idx => cell (spk m c (((grid0.coords t 0).val * 128 + (z 1).val) * 128 + (16 * (z 2).val + (z 4).val / 8)))
    (((grid0.coords t 0).val * 128 + (z 1).val) * 128 + (16 * (z 2).val + (z 4).val / 8)) ((z 4).val % 8)) _ ?_ y (cover0_5 _ _ _ _ _ _ _ _ y)).trans ?_
  · intro p hp x
    simp only [List.mem_cons, List.not_mem_nil, or_false] at hp
    rcases hp with rfl | rfl | rfl | rfl | rfl | rfl | rfl | rfl
    · exact (piece_at m c t 7 (by decide) _ _ rfl x).trans (same_cell m c _ 7 x _ (emb_at _ _ inb_S2x128x8x8x128_S2x128x1x8x128_0_0_7_0_0 _ 1 rfl)
        (emb_unit _ _ inb_S2x128x8x8x128_S2x128x1x8x128_0_0_7_0_0 rfl x) (emb_at _ _ inb_S2x128x8x8x128_S2x128x1x8x128_0_0_7_0_0 _ 4 rfl))
    · exact (piece_at m c t 6 (by decide) _ _ rfl x).trans (same_cell m c _ 6 x _ (emb_at _ _ inb_S2x128x8x8x128_S2x128x1x8x128_0_0_6_0_0 _ 1 rfl)
        (emb_unit _ _ inb_S2x128x8x8x128_S2x128x1x8x128_0_0_6_0_0 rfl x) (emb_at _ _ inb_S2x128x8x8x128_S2x128x1x8x128_0_0_6_0_0 _ 4 rfl))
    · exact (piece_at m c t 5 (by decide) _ _ rfl x).trans (same_cell m c _ 5 x _ (emb_at _ _ inb_S2x128x8x8x128_S2x128x1x8x128_0_0_5_0_0 _ 1 rfl)
        (emb_unit _ _ inb_S2x128x8x8x128_S2x128x1x8x128_0_0_5_0_0 rfl x) (emb_at _ _ inb_S2x128x8x8x128_S2x128x1x8x128_0_0_5_0_0 _ 4 rfl))
    · exact (piece_at m c t 4 (by decide) _ _ rfl x).trans (same_cell m c _ 4 x _ (emb_at _ _ inb_S2x128x8x8x128_S2x128x1x8x128_0_0_4_0_0 _ 1 rfl)
        (emb_unit _ _ inb_S2x128x8x8x128_S2x128x1x8x128_0_0_4_0_0 rfl x) (emb_at _ _ inb_S2x128x8x8x128_S2x128x1x8x128_0_0_4_0_0 _ 4 rfl))
    · exact (piece_at m c t 3 (by decide) _ _ rfl x).trans (same_cell m c _ 3 x _ (emb_at _ _ inb_S2x128x8x8x128_S2x128x1x8x128_0_0_3_0_0 _ 1 rfl)
        (emb_unit _ _ inb_S2x128x8x8x128_S2x128x1x8x128_0_0_3_0_0 rfl x) (emb_at _ _ inb_S2x128x8x8x128_S2x128x1x8x128_0_0_3_0_0 _ 4 rfl))
    · exact (piece_at m c t 2 (by decide) _ _ rfl x).trans (same_cell m c _ 2 x _ (emb_at _ _ inb_S2x128x8x8x128_S2x128x1x8x128_0_0_2_0_0 _ 1 rfl)
        (emb_unit _ _ inb_S2x128x8x8x128_S2x128x1x8x128_0_0_2_0_0 rfl x) (emb_at _ _ inb_S2x128x8x8x128_S2x128x1x8x128_0_0_2_0_0 _ 4 rfl))
    · exact (piece_at m c t 1 (by decide) _ _ rfl x).trans (same_cell m c _ 1 x _ (emb_at _ _ inb_S2x128x8x8x128_S2x128x1x8x128_0_0_1_0_0 _ 1 rfl)
        (emb_unit _ _ inb_S2x128x8x8x128_S2x128x1x8x128_0_0_1_0_0 rfl x) (emb_at _ _ inb_S2x128x8x8x128_S2x128x1x8x128_0_0_1_0_0 _ 4 rfl))
    · exact (piece_at m c t 0 (by decide) _ _ rfl x).trans (same_cell m c _ 0 x _ (emb_at _ _ inb_S2x128x8x8x128_S2x128x1x8x128_0_0_0_0_0 _ 1 rfl)
        (emb_unit _ _ inb_S2x128x8x8x128_S2x128x1x8x128_0_0_0_0_0 rfl x) (emb_at _ _ inb_S2x128x8x8x128_S2x128x1x8x128_0_0_0_0_0 _ 4 rfl))
  · unfold lane5
    blk_simp [e]

end Cert.Arrays

end
-- ==== Proof.Results.lean ====
/- The kernel's results after its whole run: the host operations after the region, read at an index. -/
module

public import proofs.«01_k».proof.Proof.Arrays

@[expose] public section

set_option maxRecDepth 16384

noncomputable section

namespace Cert.Results

open Idealize.ShloMosaic Idealize.ShloMosaic.TcCoe Idealize.SL.Sem
open Cert.KernelIdeal Cert.KernelIdeal.Gen Cert.Spec Cert.Arrays

variable (m : (ℓ : Loc nD τ sig) → Buf (Elt Ideal) ℓ) (c : Dev nD)

/-- The memory a core's host operations after the region start from. -/
abbrev mid : Valuation τ sig (Elt Ideal) := Pipeline.withArrays spec0 c (V0 m c) fun w => (dats m 0 c).arrAt w cfg0.N

/-- What the host operations after the region leave in a buffer. -/
abbrev tail (b : Ref sig .tc) := Pipeline.afterTail₀ cfgs (dats m) 0 (V0 m) [hostOps1] c b

/-- No two windows share an array. -/
theorem arr_inj : Function.Injective (Pipeline.arrRef spec0) := by decide

/-- After the region a window's array holds what the pipeline left there. -/
theorem mid_arr (w : Fin cfg0.W) : mid m c (Proc.devRef .tc (Pipeline.arrRef spec0 w)) = (dats m 0 c).arrAt w cfg0.N :=
  Pipeline.withArrays_arr spec0 arr_inj c (V0 m c) (fun w => (dats m 0 c).arrAt w cfg0.N) w

/-- The first result's buffer: the five-axis array transposed and laid out in sixteen rows. -/
theorem tail_v6 : tail m c main_v6 = shapeCast S16x524288 (transpose S2x8x512x8x128 [0, 3, 1, 2, 4]
    ((dats m 0 c).arrAt 5 cfg0.N) transposes_S2x512x8x8x128_S2x8x512x8x128_0_3_1_2_4) shapeCasts_S2x8x512x8x128_S16x524288 := by
  rw [← mid_arr m c 5]
  show StableHlo.after hostOps1 (mid m c) (Proc.devRef .tc main_v6) = _
  after_reads_simp
  rfl

/-- The second result's buffer: the phases array laid out flat. -/
theorem tail_v7 : tail m c main_v7 = shapeCast S65536 ((dats m 0 c).arrAt 7 cfg0.N) shapeCasts_S512x128_S65536 := by
  rw [← mid_arr m c 7]
  show StableHlo.after hostOps1 (mid m c) (Proc.devRef .tc main_v7) = _
  after_reads_simp
  rfl

/-- The third result's buffer: the bins array transposed. -/
theorem tail_v8 : tail m c main_v8 = transpose S65536x8 [1, 0] ((dats m 0 c).arrAt 6 cfg0.N) transposes_S8x65536_S65536x8_1_0 := by
  rw [← mid_arr m c 6]
  show StableHlo.after hostOps1 (mid m c) (Proc.devRef .tc main_v8) = _
  after_reads_simp

/-- The fifth result's buffer: the last-spike array laid out flat. -/
theorem tail_v9 : tail m c main_v9 = shapeCast S65536 ((dats m 0 c).arrAt 8 cfg0.N) shapeCasts_S512x128_S65536 := by
  rw [← mid_arr m c 8]
  show StableHlo.after hostOps1 (mid m c) (Proc.devRef .tc main_v9) = _
  after_reads_simp
  rfl

/-- The sixth result's buffer: the weights array transposed. -/
theorem tail_v10 : tail m c main_v10 = transpose S65536x8 [1, 0] ((dats m 0 c).arrAt 9 cfg0.N) transposes_S8x65536_S65536x8_1_0 := by
  rw [← mid_arr m c 9]
  show StableHlo.after hostOps1 (mid m c) (Proc.devRef .tc main_v10) = _
  after_reads_simp

/-- The fourth result's buffer: a constant. -/
theorem tail_cst_2 : tail m c main_cst_2 = fun _ : S_.Idx => Ideal.ofBits .f32 0x3E80ADFD#32 := by
  show StableHlo.after hostOps1 (mid m c) (Proc.devRef .tc main_cst_2) = _
  after_reads_simp
  rfl

/-- Entry `(n / 128, n % 128)` of a square array. -/
def ixs (n : ℕ) (h : n < 65536) : S512x128.Idx := fun a => match a with
  | ⟨0, _⟩ => ⟨n / 128, by show n / 128 < 512; omega⟩
  | ⟨1, _⟩ => ⟨n % 128, Nat.mod_lt _ (by show 0 < 128; omega)⟩

/-- A square array laid out flat, read at an entry. -/
theorem flat_square (x : S512x128.Idx → EReal) (i : S65536.Idx) :
    shapeCast S65536 x shapeCasts_S512x128_S65536 i = x (ixs (i 0).val (i 0).isLt) := by
  rw [shapeCast_apply _ _ i (ixs (i 0).val (i 0).isLt) (by
    rw [Shape.rowMajor_val_one, Shape.rowMajor_val_two]
    show (i 0).val / 128 * 128 + (i 0).val % 128 = (i 0).val
    omega)]

/-- An array of eight rows transposed, read at an entry. -/
theorem turn_apply (x : S8x65536.Idx → EReal) (i : S65536x8.Idx) :
    transpose S65536x8 [1, 0] x transposes_S8x65536_S65536x8_1_0 i = x (fun a => match a with | ⟨0, _⟩ => i 1 | ⟨1, _⟩ => i 0) :=
  transpose_apply _ _ _ i _ (fun a => by fin_cases a <;> rfl)

/-- The second result: the phases. -/
theorem res_v7 (i : S65536.Idx) : tail m c main_v7 i = (ph (i 0).val : EReal) := by
  rw [tail_v7, flat_square, final7]
  show (ph ((i 0).val / 128 * 128 + (i 0).val % 128) : EReal) = _
  rw [Nat.div_add_mod']

/-- The fifth result: the last spike times. -/
theorem res_v9 (i : S65536.Idx) : tail m c main_v9 i = last (spk m c (i 0).val) (i 0).val := by
  rw [tail_v9, flat_square, final8]
  show last (spk m c ((i 0).val / 128 * 128 + (i 0).val % 128)) ((i 0).val / 128 * 128 + (i 0).val % 128) = _
  rw [Nat.div_add_mod']

/-- The third result: the bins. -/
theorem res_v8 (i : S65536x8.Idx) : tail m c main_v8 i = cell (spk m c (i 0).val) (i 0).val (i 1).val := by
  rw [tail_v8, turn_apply, final6]

/-- The index of the five-axis array that row `p`, column `q` of the first result comes from. -/
def ix5 (p q : ℕ) (hp : p < 16) (hq : q < 524288) : S2x512x8x8x128.Idx := fun a => match a with
  | ⟨0, _⟩ => ⟨p / 8, by show p / 8 < 2; omega⟩
  | ⟨1, _⟩ => ⟨q / 1024, by show q / 1024 < 512; omega⟩
  | ⟨2, _⟩ => ⟨q % 1024 / 128, by show q % 1024 / 128 < 8; omega⟩
  | ⟨3, _⟩ => ⟨p % 8, by show p % 8 < 8; omega⟩
  | ⟨4, _⟩ => ⟨q % 128, by show q % 128 < 128; omega⟩

/-- The same index after the transposition. -/
def ix5t (p q : ℕ) (hp : p < 16) (hq : q < 524288) : S2x8x512x8x128.Idx := fun a => match a with
  | ⟨0, _⟩ => ⟨p / 8, by show p / 8 < 2; omega⟩
  | ⟨1, _⟩ => ⟨p % 8, by show p % 8 < 8; omega⟩
  | ⟨2, _⟩ => ⟨q / 1024, by show q / 1024 < 512; omega⟩
  | ⟨3, _⟩ => ⟨q % 1024 / 128, by show q % 1024 / 128 < 8; omega⟩
  | ⟨4, _⟩ => ⟨q % 128, by show q % 128 < 128; omega⟩

/-- The first result: every lane's bins in a row, the same row sixteen times. -/
theorem res_v6 (i : S16x524288.Idx) :
    tail m c main_v6 i = cell (spk m c ((i 1).val / 8)) ((i 1).val / 8) ((i 1).val % 8) := by
  have hp : (i 0).val < 16 := (i 0).isLt
  have hq : (i 1).val < 524288 := (i 1).isLt
  rw [tail_v6, shapeCast_apply _ _ i (ix5t (i 0).val (i 1).val hp hq) (by
      rw [Shape.rowMajor_val_five, Shape.rowMajor_val_two]
      show ((((i 0).val / 8 * 8 + (i 0).val % 8) * 512 + (i 1).val / 1024) * 8 + (i 1).val % 1024 / 128) * 128 + (i 1).val % 128
        = (i 0).val * 524288 + (i 1).val
      omega),
    transpose_apply _ _ _ _ (ix5 (i 0).val (i 1).val hp hq) (fun a => by fin_cases a <;> rfl), final5]
  have e : lane5 (ix5 (i 0).val (i 1).val hp hq) = (i 1).val / 8 := by
    show (i 1).val / 1024 * 128 + (16 * ((i 1).val % 1024 / 128) + (i 1).val % 128 / 8) = _
    omega
  have e' : (i 1).val % 128 % 8 = (i 1).val % 8 := by omega
  show cell (spk m c (lane5 (ix5 (i 0).val (i 1).val hp hq))) (lane5 (ix5 (i 0).val (i 1).val hp hq)) ((i 1).val % 128 % 8) = _
  rw [e, e']

/-- Every run ends with each result buffer as the host operations leave it, and the arguments unchanged. -/
theorem run (ρ : Dev nD → PrngReg) : θ_run defs (onTc (τ := τ) (main (F := Ideal))) ⟨m, fun _ => 0, ρ⟩ fun r => ∀ c : Dev nD,
    r.2.mem ((c : Thread nD τ).loc main_v6) = tail m c main_v6
    ∧ r.2.mem ((c : Thread nD τ).loc main_v7) = tail m c main_v7
    ∧ r.2.mem ((c : Thread nD τ).loc main_v8) = tail m c main_v8
    ∧ r.2.mem ((c : Thread nD τ).loc main_cst_2) = tail m c main_cst_2
    ∧ r.2.mem ((c : Thread nD τ).loc main_v9) = tail m c main_v9
    ∧ r.2.mem ((c : Thread nD τ).loc main_v10) = tail m c main_v10
    ∧ r.2.mem ((c : Thread nD τ).loc main_arg0) = m ((c : Thread nD τ).loc main_arg0)
    ∧ r.2.mem ((c : Thread nD τ).loc main_arg1) = m ((c : Thread nD τ).loc main_arg1) :=
  (θ_run defs _ _).mono (fun _ h c => ⟨(h.1 c).2 main_v6 (Pipeline.mem_restRefs_of main_v6 (by decide) (by decide)),
      (h.1 c).2 main_v7 (Pipeline.mem_restRefs_of main_v7 (by decide) (by decide)),
      (h.1 c).2 main_v8 (Pipeline.mem_restRefs_of main_v8 (by decide) (by decide)),
      (h.1 c).2 main_cst_2 (Pipeline.mem_restRefs_of main_cst_2 (by decide) (by decide)),
      (h.1 c).2 main_v9 (Pipeline.mem_restRefs_of main_v9 (by decide) (by decide)),
      (h.1 c).2 main_v10 (Pipeline.mem_restRefs_of main_v10 (by decide) (by decide)), h.2 c⟩)
    (θ_run_and (run_main m ρ) (unchanged m ρ))

end Cert.Results

end
-- ==== Proof.RefValue.lean ====
/- What the reference computes, read at an index. -/
module

public import proofs.«01_k».proof.Proof.Spec
public import proofs.«01_k».proof.Proof.Gen.ReferenceIdeal.Read

@[expose] public section

set_option maxRecDepth 16384

noncomputable section

namespace Cert.RefValue

open Cert.ReferenceIdeal Cert.ReferenceIdeal.Gen Cert.ReferenceIdeal.Read Cert.Consts Cert.Spec
open Idealize.ShloMosaic Idealize.ShloMosaic.TcCoe Idealize.SL.Sem Idealize.ShloMosaic.StableHlo

/-- The first 65535 entries of the evenly spaced points. -/
theorem lin_body (i : S65535.Idx) : val_main_call0_v15 (F := Ideal) i = (((i 0).val * step : ℝ) : EReal) := by
  have hi : (i 0).val < 65535 := (i 0).isLt
  have e4 : val_main_call0_v4 (F := Ideal) i = (((i 0).val : ℝ) : EReal) := by
    show (((BitVec.ofNat 32 (i 0).val).toInt : ℝ) : EReal) = _
    rw [toInt_small _ (by omega)]
    norm_cast
  have e7 (j : S1.Idx) : val_main_call0_v7 (F := Ideal) j = 0 := by
    show Ideal.ofBits .f32 0x00000000#32 = _
    exact zero_bits
  have e12 (j : S1.Idx) : val_main_call0_v12 (F := Ideal) j = ((13176795 / 16777216 : ℝ) : EReal) := by
    show Ideal.ofBits .f32 0x3F490FDB#32 = _
    exact quarter_bits
  rw [val_main_call0_v15_apply, val_main_call0_v11_apply, val_main_call0_v14_apply, val_main_call0_v10_apply,
    val_main_call0_v13_apply, e7, e12, val_main_call0_v6_apply, e4, val_main_call0_v5_apply, val_main_call0_cst_0_apply]
  simp only [Ideal.addf_def, Ideal.mulf_def, Ideal.hostDivf_def, Ideal.ofBits_def, n65535_bits, zero_mul, zero_add]
  rw [Ideal.div_coe (by norm_num), ← EReal.coe_mul, ← EReal.coe_mul]
  congr 1
  unfold step
  ring

/-- The last of the evenly spaced points. -/
theorem lin_last (i : S1.Idx) : val_main_call0_v16 (F := Ideal) i = ((65535 * step : ℝ) : EReal) := by
  show Ideal.ofBits .f32 0x3F490FDB#32 = _
  rw [quarter_bits]
  congr 1
  unfold step
  norm_num

/-- The evenly spaced points. -/
theorem lin (i : S65536.Idx) : val_main_v0 (F := Ideal) i = (((i 0).val * step : ℝ) : EReal) := by
  have hi : (i 0).val < 65536 := (i 0).isLt
  unfold val_main_v0
  by_cases h : (i 0).val < 65535
  · rw [concatenate_pair_apply_left (t := S65536) (s₁ := S65535) (s₂ := S1) 0 _ _ _ i rfl
      (fun a => match a with | ⟨0, _⟩ => ⟨(i 0).val, h⟩) (fun b => match b with | ⟨0, _⟩ => rfl), lin_body]
  · rw [concatenate_pair_apply_right (t := S65536) (s₁ := S65535) (s₂ := S1) 0 _ _ _ i rfl rfl
      (fun a => match a with | ⟨0, _⟩ => ⟨0, Nat.one_pos⟩) (fun b hb => absurd (match b with | ⟨0, _⟩ => rfl) hb)
      (by show 0 + 65535 = (i 0).val; omega), lin_last]
    have e : (i 0).val = 65535 := by omega
    rw [e]
    norm_num

/-- The phases before the remainder. -/
theorem sum_apply (i : S65536.Idx) : val_main_v2 (F := Ideal) i = (ph (i 0).val : EReal) := by
  rw [val_main_v2_apply, lin, val_main_v1_apply, val_main_cst_1_apply]
  simp only [Ideal.addf_def, Ideal.ofBits_def, osc_bits]
  rw [← EReal.coe_add]
  rfl

/-- The remainder of a phase by two pi is the phase. -/
theorem rem_apply (i : S65536.Idx) : val_main_call1_v2 (F := Ideal) i = (ph (i 0).val : EReal) := by
  have hi : (i 0).val < 65536 := (i 0).isLt
  rw [val_main_call1_v2_apply, sum_apply, val_main_call1_v1_apply, val_main_call1_v0_apply, val_main_cst_2_apply]
  simp only [Ideal.hostRemf_def, Ideal.ofBits_def, twoPi_bits]
  have ht : (13176795 / 2097152 : ℝ) = tp := rfl
  rw [ht, Ideal.remf_coe, if_neg (by unfold tp; norm_num), truncInt_ph _ hi]
  simp

/-- Result 2: the phases. -/
theorem phases_apply (i : S65536.Idx) : val_main_v3 (F := Ideal) i = (ph (i 0).val : EReal) := by
  have hp : 0 < ph (i 0).val := ph_pos _
  have e6 : val_main_call1_v6 (F := Ideal) i = 0#1 := by
    rw [val_main_call1_v6_apply, rem_apply, val_main_call1_v5_apply, val_main_call1_cst_0_apply]
    simp only [cmpf_eq, Ideal.ofBits_def, zero_bits, Ideal.cmp]
    rw [decide_eq_false (by exact_mod_cast not_lt.mpr hp.le)]
    rfl
  have e8 : val_main_call1_v8 (F := Ideal) i = 0#1 := by
    rw [val_main_call1_v8_apply, val_main_call1_v7_apply, val_main_call1_v0_apply, val_main_cst_2_apply, val_main_call1_cst_1_apply]
    simp only [cmpf_eq, Ideal.ofBits_def, zero_bits, twoPi_bits, Ideal.cmp]
    rw [decide_eq_false (by exact_mod_cast (by norm_num : ¬ ((13176795 / 2097152 : ℝ) < 0)))]
    rfl
  rw [val_main_v3_apply, val_main_call1_v10_apply, val_main_call1_v9_apply, e6, e8, rem_apply]
  have z (y : BitVec 1) : IntOp.andi (IntOp.cmpi .ne (0#1) (0#1)) y = 0#1 := by revert y; decide
  rw [z]
  rfl

/-- The spike of a lane compared with zero. -/
theorem mask_apply (x : S16x65536.Idx → EReal) (i : S65536.Idx) :
    val_main_v7 (F := Ideal) x i = BitVec.ofBool (decide (0 < x (lane (i 0).val (i 0).isLt))) := by
  have hi : (i 0).val < 65536 := (i 0).isLt
  have e : idx_main_v4 (idx_main_v5 i) = lane (i 0).val hi := by
    funext a
    match a with
    | ⟨0, _⟩ => rfl
    | ⟨1, _⟩ => exact Fin.ext (Nat.mod_eq_of_lt hi)
  rw [val_main_v7_apply, val_main_v5_apply, val_main_v4_apply, val_main_v6_apply, val_main_cst_3_apply, e]
  simp only [cmpf_eq, Ideal.ofBits_def, zero_bits, Ideal.cmp]

/-- The clipped bin number of a lane. -/
theorem bin_apply (i : S65536.Idx) : val_main_v14 (F := Ideal) i = BitVec.ofInt 32 (bin (i 0).val) := by
  have hi : (i 0).val < 65536 := (i 0).isLt
  have e11 : val_main_v11 (F := Ideal) i = ((ph (i 0).val * (1 / tp) * 8 : ℝ) : EReal) := by
    rw [val_main_v11_apply, val_main_v9_apply, phases_apply, val_main_v8_apply, val_main_cst_4_apply, val_main_v10_apply, val_main_cst_5_apply]
    simp only [Ideal.mulf_def, Ideal.hostDivf_def, Ideal.ofBits_def, twoPi_bits, eight_bits]
    rw [Ideal.div_coe (by norm_num), ← EReal.coe_mul, ← EReal.coe_mul]
    rfl
  have e13 : val_main_v13 (F := Ideal) i = BitVec.ofInt 32 (bin (i 0).val) := by
    rw [val_main_v13_apply, val_main_v12_apply, e11]
    show Ideal.fptosi 32 (((bin (i 0).val : ℝ)) : EReal) = _
    unfold Ideal.fptosi
    rw [Ideal.toIntClamped_coe, Int.floor_intCast, Int.ceil_intCast, ite_self]
    rcases bin_cases _ hi with h | h <;> rw [h] <;> rfl
  rw [val_main_v14_apply, val_main_call2_v4_apply, val_main_call2_v3_apply, val_main_c_6_apply, val_main_call2_v2_apply,
    val_main_call2_v1_apply, val_main_call2_v0_apply, val_main_c_apply, e13]
  rcases bin_cases _ hi with h | h <;> rw [h] <;> decide

/-- The one-hot row of a lane: one at its bin, zero elsewhere. -/
theorem onehot_apply (i : S65536x8.Idx) :
    val_main_v15 (F := Ideal) i = if bin (i 0).val = (i 1).val then (1 : EReal) else 0 := by
  have hi : (i 0).val < 65536 := (i 0).isLt
  have hk : (i 1).val < 8 := (i 1).isLt
  have e3 : val_main_call3_v3 (F := Ideal) i = BitVec.ofNat 32 (i 1).val := by
    rw [val_main_call3_v3_apply]
    rfl
  rw [val_main_v15_apply, val_main_call3_v4_apply, e3, val_main_call3_v2_apply, val_main_call3_v0_apply, bin_apply]
  show (((IntOp.cmpi .eq (BitVec.ofInt 32 (bin (i 0).val)) (BitVec.ofNat 32 (i 1).val)).toNat : ℝ) : EReal) = _
  generalize (i 1).val = k at hk ⊢
  rcases bin_cases _ hi with h | h <;> rw [h] <;> interval_cases k <;> simp [IntOp.cmpi]

/-- Result 3: the bins. -/
theorem bins_apply (x : S16x65536.Idx → EReal) (i : S65536x8.Idx) :
    val_main_v21 (F := Ideal) x i = cell (x (lane (i 0).val (i 0).isLt)) (i 0).val (i 1).val := by
  rw [val_main_v21_apply, val_main_v19_apply, onehot_apply, val_main_v20_apply, val_main_cst_7_apply, val_main_v18_apply,
    val_main_v17_apply, val_main_v16_apply, mask_apply]
  simp only [Ideal.mulf_def, Ideal.ofBits_def, conf_bits]
  show (((BitVec.ofBool (decide (0 < x (lane (i 0).val (i 0).isLt)))).toNat : ℝ) : EReal) * _ * _ = _
  unfold cell
  by_cases h : 0 < x (lane (i 0).val (i 0).isLt) <;> by_cases h' : bin (i 0).val = (i 1).val <;> simp [h, h', conf]

/-- Result 5: the last spike times. -/
theorem last_apply (x : S16x65536.Idx → EReal) (i : S65536.Idx) :
    val_main_v22 (F := Ideal) x i = last (x (lane (i 0).val (i 0).isLt)) (i 0).val := by
  rw [val_main_v22_apply, mask_apply, phases_apply, val_main_call4_v1_apply, val_main_call4_v0_apply, val_main_cst_8_apply]
  simp only [Ideal.ofBits_def, neg_inf_bits]
  unfold last
  by_cases h : 0 < x (lane (i 0).val (i 0).isLt) <;> simp [h, Scalar.select]

/-- Result 1: the bins of every lane in a row, the same row sixteen times. -/
theorem flat_apply (x : S16x65536.Idx → EReal) (i : S16x524288.Idx) (h : (i 1).val / 8 < 65536) :
    val_main_v25 (F := Ideal) x i = cell (x (lane ((i 1).val / 8) h)) ((i 1).val / 8) ((i 1).val % 8) := by
  rw [val_main_v25_apply, val_main_v24_apply, val_main_v23_apply, bins_apply]

end Cert.RefValue

end
-- ==== Proof.Claims.lean ====
/- The claims, each from its lemmas. -/
module

public import proofs.«01_k».proof.Defs
public import proofs.«01_k».proof.Proof.Results
public import proofs.«01_k».proof.Proof.RefValue
public import proofs.«01_k».proof.Proof.Gen.Kernel.Frame
public import proofs.«01_k».proof.Proof.Gen.ReferenceIdeal.Run
public import proofs.«01_k».proof.Proof.Gen.On_all_but_weights

@[expose] public section

set_option maxRecDepth 16384

noncomputable section

namespace Cert.Claims

open Idealize.ShloMosaic Idealize.ShloMosaic.TcCoe Idealize.SL.Sem
open Cert.KernelIdeal Cert.Spec Cert.Arrays

/-- The kernel terminates without fault, leaves its arguments unchanged and every semaphore counter at zero. -/
theorem frame_kernel : Cert.quiescent_Kernel := fun m ρ _ => Cert.Kernel.Gen.frame m ρ

/-- So does the kernel over the extended reals. -/
theorem frame_ideal : Cert.quiescent_KernelIdeal := fun m ρ _ => Cert.KernelIdeal.Gen.frame m ρ

/-- So does the reference over the extended reals. -/
theorem frame_reference : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

/-- The one rewritten constant is the float of the rational it stands for. -/
theorem preserves : Cert.preserves_Kernel_KernelIdeal :=
  IdealRules.named_const.statement Cert.KernelIdeal.κ "step" .f32 0x374910A4#32 ((878453 / 73299656704 : ℝ) : EReal) rfl

/-- The sixth component of the mask is nowhere set. -/
theorem mask_off (x : FVec Ideal Cert.On_all_but_weights.S16x65536 .f32) (y : IVec Cert.On_all_but_weights.S_ 32)
    (i : Cert.On_all_but_weights.S65536x8.Idx) : (Cert.On_all_but_weights.fn (F := Ideal) x y).2.2.2.2.2 i ≠ 1#1 := by
  show (0#1 : BitVec 1) ≠ 1#1
  decide

/-- Kernel and reference end with the same first five results, at every element. -/
theorem algebraic : Cert.algebraic_KernelIdeal_ReferenceIdeal_on_all_but_weights := by
  intro m ρ m' ρ' _ hagree
  refine ⟨fun c => Results.tail m c main_v6, fun c => Results.tail m c main_v7, fun c => Results.tail m c main_v8,
    fun c => Results.tail m c main_cst_2, fun c => Results.tail m c main_v9, fun c => Results.tail m c main_v10, ?_, ?_⟩
  · exact (θ_run Cert.KernelIdeal.defs _ _).mono
      (fun _ h c => ⟨fun i _ => congrFun (h c).1 i, fun i _ => congrFun (h c).2.1 i, fun i _ => congrFun (h c).2.2.1 i,
        fun i _ => congrFun (h c).2.2.2.1 i, fun i _ => congrFun (h c).2.2.2.2.1 i, fun i _ => congrFun (h c).2.2.2.2.2.1 i,
        (h c).2.2.2.2.2.2⟩)
      (Results.run m ρ)
  · refine (θ_run Cert.ReferenceIdeal.defs _ _).mono
      (fun _ h c => ⟨fun i _ => (congrFun (h c).1 i).trans ?_, fun i _ => (congrFun (h c).2.1 i).trans ?_,
        fun i _ => (congrFun (h c).2.2.1 i).trans ?_, fun i _ => (congrFun (h c).2.2.2.1 i).trans ?_,
        fun i _ => (congrFun (h c).2.2.2.2.1 i).trans ?_, fun i hi => absurd hi (mask_off _ _ i), (h c).2.2.2.2.2.2⟩)
      (Cert.ReferenceIdeal.Value.run (F := Ideal) m' ρ')
    · have hl : (i 1).val / 8 < 65536 := by
        have : (i 1).val < 524288 := (i 1).isLt
        omega
      rw [Cert.ReferenceIdeal.Read.val_main_v25_eq, RefValue.flat_apply _ i hl, (hagree c).1]
      exact (congrArg (fun z => cell z _ _) (spk_lane m c _ hl)).trans (Results.res_v6 m c i).symm
    · rw [Cert.ReferenceIdeal.Read.val_main_v3_eq, RefValue.phases_apply]
      exact (Results.res_v7 m c i).symm
    · rw [Cert.ReferenceIdeal.Read.val_main_v21_eq, RefValue.bins_apply, (hagree c).1]
      exact (congrArg (fun z => cell z _ _) (spk_lane m c _ _)).trans (Results.res_v8 m c i).symm
    · exact (congrFun (Results.tail_cst_2 m c) i).symm
    · rw [Cert.ReferenceIdeal.Read.val_main_v22_eq, RefValue.last_apply, (hagree c).1]
      exact (congrArg (fun z => last z _) (spk_lane m c _ _)).trans (Results.res_v9 m c i).symm

end Cert.Claims

end
-- ==== Proof.Trig.lean ====
/- The cosine of a phase less a bin angle, against the kernel's truncated series and rounded tables. -/
module

public import proofs.«01_k».proof.Proof.Spec
public import Mathlib.Analysis.SpecialFunctions.Trigonometric.Basic

@[expose] public section

noncomputable section

namespace Cert.Trig

open Cert.Spec

/-- The cosine's series up to the fourteenth power. -/
def cosP (x : ℝ) : ℝ :=
  1 - x ^ 2 / 2 + x ^ 4 / 24 - x ^ 6 / 720 + x ^ 8 / 40320 - x ^ 10 / 3628800 + x ^ 12 / 479001600 - x ^ 14 / 87178291200

/-- The sine's series up to the fifteenth power. -/
def sinP (x : ℝ) : ℝ :=
  x - x ^ 3 / 6 + x ^ 5 / 120 - x ^ 7 / 5040 + x ^ 9 / 362880 - x ^ 11 / 39916800 + x ^ 13 / 6227020800 - x ^ 15 / 1307674368000

/-- Cosine and sine of `a` are `c` and `s` up to `e`. -/
def Near (a c s e : ℝ) : Prop := |Real.cos a - c| ≤ e ∧ |Real.sin a - s| ≤ e

/-- The first sixteen terms of the exponential of an imaginary number are the two series. -/
theorem exp_terms (x : ℝ) :
    ∑ m ∈ Finset.range 16, ((x : ℂ) * Complex.I) ^ m / (m.factorial : ℂ) = (cosP x : ℂ) + (sinP x : ℂ) * Complex.I := by
  have h2 : Complex.I ^ 2 = -1 := Complex.I_sq
  have h4 : Complex.I ^ 4 = 1 := Complex.I_pow_four
  have h (n : ℕ) : Complex.I ^ (n + 4) = Complex.I ^ n := by rw [pow_add, h4, mul_one]
  have h3 : Complex.I ^ 3 = -Complex.I := by rw [pow_succ, h2]; ring
  simp only [Finset.sum_range_succ, Finset.sum_range_zero, mul_pow, h 1, h 2, h 3, h 4, h 5, h 6, h 7, h 8, h 9, h 10, h 11,
    h2, h3, h4, pow_zero, pow_one, Nat.factorial, cosP, sinP]
  push_cast
  ring

/-- The two series on the unit interval. -/
theorem near_series (x : ℝ) (h : |x| ≤ 1) : Near x (cosP x) (sinP x) (|x| ^ 16 / 10000000000000) := by
  have hn : ‖(x : ℂ) * Complex.I‖ = |x| := by
    rw [norm_mul, Complex.norm_I, mul_one, Complex.norm_real, Real.norm_eq_abs]
  have b := Complex.exp_bound (x := (x : ℂ) * Complex.I) (by rw [hn]; exact h) (n := 16) (by norm_num)
  rw [exp_terms, hn, Complex.exp_mul_I] at b
  have e : Complex.cos (x : ℂ) + Complex.sin (x : ℂ) * Complex.I - ((cosP x : ℂ) + (sinP x : ℂ) * Complex.I)
      = ((Real.cos x - cosP x : ℝ) : ℂ) + ((Real.sin x - sinP x : ℝ) : ℂ) * Complex.I := by
    push_cast
    ring
  rw [e] at b
  have hle : |x| ^ 16 * (((Nat.succ 16 : ℕ) : ℝ) * (((Nat.factorial 16 : ℕ) : ℝ) * ((16 : ℕ) : ℝ))⁻¹) ≤ |x| ^ 16 / 10000000000000 := by
    have : (0 : ℝ) ≤ |x| ^ 16 := by positivity
    rw [div_eq_mul_inv]
    refine mul_le_mul_of_nonneg_left ?_ this
    norm_num [Nat.factorial]
  have b' := b.trans hle
  constructor
  · refine le_trans ?_ b'
    have := Complex.abs_re_le_norm (((Real.cos x - cosP x : ℝ) : ℂ) + ((Real.sin x - sinP x : ℝ) : ℂ) * Complex.I)
    rwa [Complex.add_re, Complex.re_ofReal_mul, Complex.ofReal_re, Complex.I_re, mul_zero, add_zero] at this
  · refine le_trans ?_ b'
    have := Complex.abs_im_le_norm (((Real.cos x - cosP x : ℝ) : ℂ) + ((Real.sin x - sinP x : ℝ) : ℂ) * Complex.I)
    rwa [Complex.add_im, Complex.im_ofReal_mul, Complex.ofReal_im, Complex.I_im, mul_one, zero_add] at this

/-- The distance of two products whose first factors and second factors are close. -/
theorem mul_near {a p b q d e : ℝ} (ha : |a - p| ≤ d) (hb : |b - q| ≤ e) (hA : |a| ≤ 1) (hq : |q| ≤ 101 / 100) : |a * b - p * q| ≤ e + 101 / 100 * d := by
  have e1 : a * b - p * q = a * (b - q) + (a - p) * q := by ring
  have d0 : 0 ≤ d := (abs_nonneg _).trans ha
  have e0 : 0 ≤ e := (abs_nonneg _).trans hb
  rw [e1]
  refine (abs_add_le _ _).trans ?_
  rw [abs_mul, abs_mul]
  have h1 : |a| * |b - q| ≤ 1 * e := mul_le_mul hA hb (abs_nonneg _) zero_le_one
  have h2 : |a - p| * |q| ≤ d * (101 / 100) := mul_le_mul ha hq (abs_nonneg _) d0
  linarith

/-- The angle addition formulas for approximate values. -/
theorem near_add {a c s e b u v d : ℝ} (ha : Near a c s e) (hb : Near b u v d) (hu : |u| ≤ 101 / 100) (hv : |v| ≤ 101 / 100) :
    Near (a + b) (c * u - s * v) (s * u + c * v) (2 * d + 4 * e) := by
  obtain ⟨a1, a2⟩ := ha
  obtain ⟨b1, b2⟩ := hb
  have p1 := mul_near a1 b1 (Real.abs_cos_le_one _) hu
  have p2 := mul_near a2 b2 (Real.abs_sin_le_one _) hv
  have p3 := mul_near a2 b1 (Real.abs_sin_le_one _) hu
  have p4 := mul_near a1 b2 (Real.abs_cos_le_one _) hv
  have e0 : 0 ≤ e := (abs_nonneg _).trans a1
  rw [abs_le] at p1 p2 p3 p4
  constructor
  · rw [Real.cos_add, abs_le]
    constructor <;> linarith
  · rw [Real.sin_add, abs_le]
    constructor <;> linarith

/-- The opposite angle. -/
theorem near_neg {a c s e : ℝ} (h : Near a c s e) : Near (-a) c (-s) e := by
  refine ⟨by rw [Real.cos_neg]; exact h.1, ?_⟩
  rw [Real.sin_neg, ← abs_neg, show -(-Real.sin a - -s) = Real.sin a - s by ring]
  exact h.2

/-- Approximate values may be exchanged for close ones. -/
theorem near_change {a c s e : ℝ} (c' s' e' : ℝ) (h : Near a c s e) (hc : |c - c'| ≤ e' - e) (hs : |s - s'| ≤ e' - e) : Near a c' s' e' := by
  refine ⟨?_, ?_⟩
  · have := abs_sub_le (Real.cos a) c c'
    linarith [h.1]
  · have := abs_sub_le (Real.sin a) s s'
    linarith [h.2]

/-- The kernel's centre of the phases, an f32 word. -/
def ctr : ℝ := 2701243 / 4194304

/-- A seventh of the f32 word nearest two pi: the distance between the bin angles. -/
def theta : ℝ := tp / 7

/-- The centre's cosine and sine. -/
theorem near_ctr : Near ctr (799684644148 / 1000000000000) (600420244424 / 1000000000000) (1 / 100000000000) := by
  refine near_change _ _ _ (near_series ctr (by unfold ctr; norm_num [abs_le])) ?_ ?_ <;>
    (unfold ctr
     norm_num [cosP, sinP, abs_le])

/-- The cosine and the sine of the distance between bin angles. -/
theorem near_theta : Near theta (623489782330 / 1000000000000) (781831498042 / 1000000000000) (1 / 1000000000000) := by
  refine near_change _ _ _ (near_series theta (by unfold theta tp; norm_num [abs_le])) ?_ ?_ <;>
    (unfold theta tp
     norm_num [cosP, sinP, abs_le])

/-- Decimals of the bin angles' cosines. -/
def cosD (k : ℕ) : ℝ := match k with
  | 0 => 1
  | 1 => 623489782330 / 1000000000000
  | 2 => -222520982661 / 1000000000000
  | 3 => -900968900417 / 1000000000000
  | 4 => -900968824552 / 1000000000000
  | 5 => -222520812195 / 1000000000000
  | 6 => 623489919034 / 1000000000000
  | _ => 1000000000002 / 1000000000000

/-- Decimals of the bin angles' sines. -/
def sinD (k : ℕ) : ℝ := match k with
  | 0 => 0
  | 1 => 781831498042 / 1000000000000
  | 2 => 974927901066 / 1000000000000
  | 3 => 433883671603 / 1000000000000
  | 4 => -433883829138 / 1000000000000
  | 5 => -974927939974 / 1000000000000
  | 6 => -781831389026 / 1000000000000
  | _ => 174850 / 1000000000000

/-- One step along the bin angles. -/
theorem angle_step (k : ℕ) (e : ℝ) (h : Near (k * theta) (cosD k) (sinD k) e)
    (hc : |cosD k * (623489782330 / 1000000000000) - sinD k * (781831498042 / 1000000000000) - cosD (k + 1)| ≤ 1 / 1000000000000)
    (hs : |sinD k * (623489782330 / 1000000000000) + cosD k * (781831498042 / 1000000000000) - sinD (k + 1)| ≤ 1 / 1000000000000) :
    Near ((k + 1 : ℕ) * theta) (cosD (k + 1)) (sinD (k + 1)) (4 * e + 3 / 1000000000000) := by
  have a := near_add h near_theta (by norm_num [abs_le]) (by norm_num [abs_le])
  rw [show (k : ℝ) * theta + theta = (k + 1 : ℕ) * theta by push_cast; ring] at a
  exact near_change _ _ _ a (hc.trans (by linarith)) (hs.trans (by linarith))

/-- The bin angles' cosines and sines. -/
theorem near_angle (k : ℕ) (h : k < 8) : Near (k * theta) (cosD k) (sinD k) (1 / 50000000) := by
  have h0 : Near ((0 : ℕ) * theta) (cosD 0) (sinD 0) 0 := by
    constructor <;> simp [cosD, sinD]
  have h1 := angle_step 0 _ h0 (by norm_num [cosD, sinD, abs_le]) (by norm_num [cosD, sinD, abs_le])
  have h2 := angle_step 1 _ h1 (by norm_num [cosD, sinD, abs_le]) (by norm_num [cosD, sinD, abs_le])
  have h3 := angle_step 2 _ h2 (by norm_num [cosD, sinD, abs_le]) (by norm_num [cosD, sinD, abs_le])
  have h4 := angle_step 3 _ h3 (by norm_num [cosD, sinD, abs_le]) (by norm_num [cosD, sinD, abs_le])
  have h5 := angle_step 4 _ h4 (by norm_num [cosD, sinD, abs_le]) (by norm_num [cosD, sinD, abs_le])
  have h6 := angle_step 5 _ h5 (by norm_num [cosD, sinD, abs_le]) (by norm_num [cosD, sinD, abs_le])
  have h7 := angle_step 6 _ h6 (by norm_num [cosD, sinD, abs_le]) (by norm_num [cosD, sinD, abs_le])
  have w (j : ℕ) (e : ℝ) (n : Near (j * theta) (cosD j) (sinD j) e) (he : e ≤ 1 / 50000000) :
      Near (j * theta) (cosD j) (sinD j) (1 / 50000000) := ⟨n.1.trans he, n.2.trans he⟩
  interval_cases k
  · exact w 0 _ h0 (by norm_num)
  · exact w 1 _ h1 (by norm_num)
  · exact w 2 _ h2 (by norm_num)
  · exact w 3 _ h3 (by norm_num)
  · exact w 4 _ h4 (by norm_num)
  · exact w 5 _ h5 (by norm_num)
  · exact w 6 _ h6 (by norm_num)
  · exact w 7 _ h7 (by norm_num)

/-- The kernel's table of cosines. -/
def cos8 (k : ℕ) : ℝ := match k with
  | 0 => 1
  | 1 => 10460423 / 16777216
  | 2 => -14933127 / 67108864
  | 3 => -15115749 / 16777216
  | 4 => -15115749 / 16777216
  | 5 => -14933127 / 67108864
  | 6 => 10460423 / 16777216
  | _ => 1

/-- The kernel's table of sines. -/
def sin8 (k : ℕ) : ℝ := match k with
  | 0 => 0
  | 1 => 3279239 / 4194304
  | 2 => 511143 / 524288
  | 3 => 7279361 / 16777216
  | 4 => -7279361 / 16777216
  | 5 => -511143 / 524288
  | 6 => -3279239 / 4194304
  | _ => -4626585 / 18889465931478580854784

/-- The kernel's words for the centre's cosine and sine. -/
def cosC : ℝ := 6708241 / 8388608
def sinC : ℝ := 2518345 / 4194304

/-- The tables turned by the centre's rounded angle are the cosine and the sine of the bin angle less the centre. -/
theorem near_turned (k : ℕ) (h : k < 8) :
    Near (k * theta - ctr) (cosC * cos8 k + sinC * sin8 k) (cosC * sin8 k - sinC * cos8 k) (25 / 100000000) := by
  have a := near_add (near_angle k h) (near_neg near_ctr) (by norm_num [abs_le]) (by norm_num [abs_le])
  rw [← sub_eq_add_neg] at a
  refine near_change _ _ _ a ?_ ?_ <;>
    (clear a
     interval_cases k <;> norm_num [cosC, sinC, cos8, sin8, cosD, sinD, abs_le])

/-- The kernel's short series of the cosine. -/
def cosK (x : ℝ) : ℝ := 1 + x * x * (-1 / 2 + x * x * (11184811 / 268435456 + x * x * (-11930465 / 8589934592)))

/-- The kernel's short series of the sine. -/
def sinK (x : ℝ) : ℝ := x * (1 + x * x * (-11184811 / 67108864 + x * x * (8947849 / 1073741824)))

/-- The short series where the phases lie. -/
theorem near_short (x : ℝ) (h : |x| ≤ 3928 / 10000) :
    |Real.cos x - cosK x| ≤ 3 / 100000000 ∧ |Real.sin x - sinK x| ≤ 3 / 10000000 := by
  have t0 : 0 ≤ x ^ 2 := sq_nonneg x
  have t1 : x ^ 2 ≤ 1543 / 10000 := by
    rw [← sq_abs]
    nlinarith [abs_nonneg x]
  obtain ⟨t, ht⟩ : ∃ t, t = x ^ 2 := ⟨_, rfl⟩
  rw [← ht] at t0 t1
  have pw (n : ℕ) : 0 ≤ t ^ n ∧ t ^ n ≤ (1543 / 10000) ^ n := ⟨pow_nonneg t0 n, pow_le_pow_left₀ t0 t1 n⟩
  have p2 := pw 2
  have p3 := pw 3
  have p4 := pw 4
  have p5 := pw 5
  have p6 := pw 6
  have p7 := pw 7
  norm_num at p2 p3 p4 p5 p6 p7
  have h1 : |x| ≤ 1 := h.trans (by norm_num)
  have hs : |x| ^ 16 / 10000000000000 ≤ 1 / 10000000000000 := by
    have : |x| ^ 16 ≤ 1 := pow_le_one₀ (abs_nonneg _) h1
    linarith
  have n := near_series x h1
  refine ⟨(abs_sub_le _ (cosP x) _).trans ?_, (abs_sub_le _ (sinP x) _).trans ?_⟩
  · refine (add_le_add (n.1.trans hs) (?_ : |cosP x - cosK x| ≤ 29 / 1000000000)).trans (by norm_num)
    have e : cosP x - cosK x = t ^ 2 * (1 / 24 - 11184811 / 268435456) - t ^ 3 * (1 / 720 - 11930465 / 8589934592) + t ^ 4 / 40320
        - t ^ 5 / 3628800 + t ^ 6 / 479001600 - t ^ 7 / 87178291200 := by
      rw [ht]
      unfold cosP cosK
      ring
    rw [e, abs_le]
    constructor <;> linarith
  · refine (add_le_add (n.2.trans hs) (?_ : |sinP x - sinK x| ≤ 299 / 1000000000)).trans (by norm_num)
    have e : sinP x - sinK x = x * (-t * (1 / 6 - 11184811 / 67108864) + t ^ 2 * (1 / 120 - 8947849 / 1073741824) - t ^ 3 / 5040
        + t ^ 4 / 362880 - t ^ 5 / 39916800 + t ^ 6 / 6227020800 - t ^ 7 / 1307674368000) := by
      rw [ht]
      unfold sinP sinK
      ring
    rw [e, abs_mul]
    have g : |-t * (1 / 6 - 11184811 / 67108864) + t ^ 2 * (1 / 120 - 8947849 / 1073741824) - t ^ 3 / 5040
        + t ^ 4 / 362880 - t ^ 5 / 39916800 + t ^ 6 / 6227020800 - t ^ 7 / 1307674368000| ≤ 75 / 100000000 := by
      rw [abs_le]
      constructor <;> linarith
    refine (mul_le_mul h g (abs_nonneg _) (by norm_num)).trans (by norm_num)

/-- What the kernel computes for a lane whose phase is `x` beyond the centre, at bin angle `k`. -/
def weight (x : ℝ) (k : ℕ) : ℝ :=
  (cosC * cosK x - sinC * sinK x) * cos8 k + (sinC * cosK x + cosC * sinK x) * sin8 k

/-- The kernel's weight is the cosine of the phase less the bin angle, up to 9.9e-7. -/
theorem weight_near (p : ℝ) (k : ℕ) (h : k < 8) (hp : |p - ctr| ≤ 3928 / 10000) :
    |weight (p - ctr) k - Real.cos (p - k * theta)| ≤ 99 / 100000000 := by
  obtain ⟨a1, a2⟩ := near_short (p - ctr) hp
  obtain ⟨b1, b2⟩ := near_turned k h
  have e : p - k * theta = (p - ctr) - (k * theta - ctr) := by ring
  have w : weight (p - ctr) k = cosK (p - ctr) * (cosC * cos8 k + sinC * sin8 k) + sinK (p - ctr) * (cosC * sin8 k - sinC * cos8 k) := by
    unfold weight
    ring
  rw [e, w, Real.cos_sub]
  have big (z y : ℝ) (hz : |z - y| ≤ 25 / 100000000) (h1 : |z| ≤ 1) : |y| ≤ 101 / 100 := by
    have := abs_sub_abs_le_abs_sub y z
    rw [abs_sub_comm] at this
    linarith
  have p1 := mul_near a1 b1 (Real.abs_cos_le_one _) (big _ _ b1 (Real.abs_cos_le_one _))
  have p2 := mul_near a2 b2 (Real.abs_sin_le_one _) (big _ _ b2 (Real.abs_sin_le_one _))
  rw [abs_le] at p1 p2 ⊢
  constructor <;> linarith

end Cert.Trig

end
-- ==== Proof.Weights.lean ====
/- The kernel's weights, index by index. -/
module

public import proofs.«01_k».proof.Proof.Results
public import proofs.«01_k».proof.Proof.Trig

@[expose] public section

set_option maxRecDepth 16384

noncomputable section

namespace Cert.Weights

open Idealize.ShloMosaic Idealize.ShloMosaic.TcCoe Idealize.SL.Sem
open Idealize.ShloMosaic.Pipeline (Dat)
open Cert.KernelIdeal Cert.KernelIdeal.Gen Cert.Spec Cert.Consts Cert.Payload Cert.Arrays Cert.Trig

/-- The single column at the row of an index. -/
def col0 (j : S8x16384.Idx) : S8x1.Idx := fun a => match a with
  | ⟨0, _⟩ => ⟨(j 0).val, (j 0).isLt⟩
  | ⟨1, _⟩ => ⟨0, Nat.one_pos⟩

/-- A column spread over the lanes. -/
theorem spread_col (p : Vec Ideal S8x1 .f32) (j : S8x16384.Idx) :
    broadcastTo S8x16384 (shapeCast S8x1 p shapeCasts_S8x1_S8x1) broadcasts_S8x1_S8x16384 j = p (col0 j) := by
  rw [broadcastTo_apply _ _ j (col0 j) (fun a => by fin_cases a <;> rfl), shapeCast_self]

/-- The weights block, from real values at an index. -/
theorem pay25_apply (u w : FVec Ideal S8x16384 .f32) (p q : Vec Ideal S8x1 .f32) (j : S8x16384.Idx) (x c s : ℝ)
    (hu : u j = (x : EReal)) (hw : w j = ((x * x : ℝ) : EReal)) (hp : p (col0 j) = (c : EReal)) (hq : q (col0 j) = (s : EReal)) :
    k0_pay25 u w (Scalar.ofBits .f32 0xBAB60B61#32) p q j
      = (((cosC * cosK x - sinC * sinK x) * c + (sinC * cosK x + cosC * sinK x) * s : ℝ) : EReal) := by
  show (Ideal.ofBits .f32 0x3F4CB822#32 * (Ideal.ofBits .f32 0x3F800000#32 + w j * (Ideal.ofBits .f32 0xBF000000#32
        + w j * (Ideal.ofBits .f32 0x3D2AAAAB#32 + w j * Ideal.ofBits .f32 0xBAB60B61#32)))
      - Ideal.ofBits .f32 0x3F19B524#32 * (u j * (Ideal.ofBits .f32 0x3F800000#32 + w j * (Ideal.ofBits .f32 0xBE2AAAAB#32
        + w j * Ideal.ofBits .f32 0x3C088889#32))))
      * broadcastTo S8x16384 (shapeCast S8x1 p shapeCasts_S8x1_S8x1) broadcasts_S8x1_S8x16384 j
    + (Ideal.ofBits .f32 0x3F19B524#32 * (Ideal.ofBits .f32 0x3F800000#32 + w j * (Ideal.ofBits .f32 0xBF000000#32
        + w j * (Ideal.ofBits .f32 0x3D2AAAAB#32 + w j * Ideal.ofBits .f32 0xBAB60B61#32)))
      + Ideal.ofBits .f32 0x3F4CB822#32 * (u j * (Ideal.ofBits .f32 0x3F800000#32 + w j * (Ideal.ofBits .f32 0xBE2AAAAB#32
        + w j * Ideal.ofBits .f32 0x3C088889#32))))
      * broadcastTo S8x16384 (shapeCast S8x1 q shapeCasts_S8x1_S8x1) broadcasts_S8x1_S8x16384 j = _
  rw [spread_col, spread_col, hu, hw, hp, hq, cosC_bits, sinC_bits, one_bits, c2_bits, c4_bits, c6_bits, s3_bits, s5_bits,
    ← EReal.coe_one]
  simp only [← EReal.coe_mul, ← EReal.coe_add, ← EReal.coe_sub]
  rfl

/-- The distance of a lane's phase from the centre, as the kernel computes it. -/
theorem pay23_apply (g : ℕ) (hg : g < 4) (j : S8x16384.Idx) :
    k0_pay23 (F := Ideal) (BitVec.ofNat 32 g) j = ((ph (g * 16384 + (j 1).val) - ctr : ℝ) : EReal) := by
  show k0_pay21 (F := Ideal) (BitVec.ofNat 32 g) j - Ideal.ofBits .f32 0x3F24DEEC#32 = _
  rw [pay21_apply g hg, center_bits, ← EReal.coe_sub]
  rfl

/-- The square of that distance. -/
theorem pay24_apply (g : ℕ) (hg : g < 4) (j : S8x16384.Idx) :
    k0_pay24 (F := Ideal) (BitVec.ofNat 32 g) j
      = (((ph (g * 16384 + (j 1).val) - ctr) * (ph (g * 16384 + (j 1).val) - ctr) : ℝ) : EReal) := by
  show k0_pay23 (F := Ideal) (BitVec.ofNat 32 g) j * k0_pay23 (F := Ideal) (BitVec.ofNat 32 g) j = _
  rw [pay23_apply g hg, ← EReal.coe_mul]

/-- The words of the table of cosines. -/
theorem cos8_bits (k : Fin 8) : Ideal.ofBits .f32 (lit1 k) = (cos8 k.val : EReal) := by
  fin_cases k
  · exact one_bits
  · exact cos1_bits
  · exact cos2_bits
  · exact cos3_bits
  · exact cos3_bits
  · exact cos2_bits
  · exact cos1_bits
  · exact one_bits

/-- The words of the table of sines. -/
theorem sin8_bits (k : Fin 8) : Ideal.ofBits .f32 (lit2 k) = (sin8 k.val : EReal) := by
  fin_cases k
  · exact zero_bits
  · exact sin1_bits
  · exact sin2_bits
  · exact sin3_bits
  · exact sin4_bits
  · exact sin5_bits
  · exact sin6_bits
  · exact sin7_bits

variable (m : (ℓ : Loc nD τ sig) → Buf (Elt Ideal) ℓ) (c : Dev nD)

/-- An entry of a single column is its row. -/
theorem col_row (k : S8x1.Idx) : (S8x1.rowMajor k : Fin 8).val = (k 0).val := by
  have h1 : (k 1).val < 1 := (k 1).isLt
  have := Shape.rowMajor_val_two k
  have e : (S8x1.rowMajor k).val = (k 0).val * 1 + (k 1).val := this
  show (S8x1.rowMajor k).val = _
  omega

/-- The array of cosines. -/
theorem cst_0_apply (k : S8x1.Idx) : V m c main_cst_0 k = (cos8 (k 0).val : EReal) := by
  show StableHlo.after hostOps0 (fun b => m (c, b)) (Proc.devRef .tc main_cst_0) k = _
  after_reads_simp
  exact (cos8_bits (S8x1.rowMajor k)).trans (congrArg (fun n => (cos8 n : EReal)) (col_row k))

/-- The array of sines. -/
theorem cst_1_apply (k : S8x1.Idx) : V m c main_cst_1 k = (sin8 (k 0).val : EReal) := by
  show StableHlo.after hostOps0 (fun b => m (c, b)) (Proc.devRef .tc main_cst_1) k = _
  after_reads_simp
  exact (sin8_bits (S8x1.rowMajor k)).trans (congrArg (fun n => (sin8 n : EReal)) (col_row k))

/-- The cosines at a point. -/
theorem blk3_apply (t : Fin cfg0.N) (y : S8x1.Idx) : iblk m c 3 t y = (cos8 (y 0).val : EReal) := by
  have e : ∀ t : Fin cfg0.N, win0_3.index t = ![0, 0] := by decide +kernel
  blk_simp [iblk]
  rw [cst_0_apply]
  blk_simp [e]

/-- The sines at a point. -/
theorem blk4_apply (t : Fin cfg0.N) (y : S8x1.Idx) : iblk m c 4 t y = (sin8 (y 0).val : EReal) := by
  have e : ∀ t : Fin cfg0.N, win0_4.index t = ![0, 0] := by decide +kernel
  blk_simp [iblk]
  rw [cst_1_apply]
  blk_simp [e]

/-- The weights array. -/
theorem final9 : (dats m 0 c).arrAt 9 cfg0.N = fun i : S8x65536.Idx => (weight (ph (i 1).val - ctr) (i 0).val : EReal) := by
  refine (dats m 0 c).arrAt_eq_of_covers 9 _ (by decide +kernel) fun t hf y => ?_
  have e : ∀ t : Fin cfg0.N, win0_9.index t = ![0, (grid0.coords t 0).val] := by decide +kernel
  blk_simp [e]
  rw [after0_9]
  frame_out
  exact pay25_apply _ _ _ _ _ _ _ _ (pay23_apply _ (grid0.coords t 0).isLt _) (pay24_apply _ (grid0.coords t 0).isLt _)
    (blk3_apply m c t _) (blk4_apply m c t _)

/-- The sixth result: the weights. -/
theorem res_v10 (i : S65536x8.Idx) : Results.tail m c main_v10 i = (weight (ph (i 0).val - ctr) (i 1).val : EReal) := by
  rw [Results.tail_v10, Results.turn_apply, final9]

/-- A phase lies within 0.3928 of the centre. -/
theorem ph_ctr (n : ℕ) (h : n < 65536) : |ph n - ctr| ≤ 3928 / 10000 := by
  have h' : (n : ℝ) ≤ 65535 := by exact_mod_cast Nat.lt_succ_iff.mp h
  have h0 : (0 : ℝ) ≤ n := Nat.cast_nonneg n
  unfold ph osc step ctr
  rw [abs_le]
  constructor <;> linarith

end Cert.Weights

end
-- ==== Proof.Near.lean ====
/- The sixth result is within 1e-6 of the cosine that the reference defines. -/
module

public import proofs.«01_k».proof.Defs
public import proofs.«01_k».proof.Proof.Weights
public import proofs.«01_k».proof.Proof.Gen.Post_weights_near

@[expose] public section

set_option maxRecDepth 16384

noncomputable section

namespace Cert.Near

open Idealize.ShloMosaic Idealize.ShloMosaic.TcCoe Idealize.SL.Sem Idealize.ShloMosaic.StableHlo
open Cert.Post_weights_near Cert.Spec Cert.Consts Cert.Trig

/-- The column of an index, as an entry of the bin angles. -/
def entry (k : ℕ) (h : k < 8) : S8.Idx := fun a => match a with
  | ⟨0, _⟩ => ⟨k, h⟩

/-- The predicate's evenly spaced bin angles. -/
theorem angles (k : ℕ) (h : k < 8) :
    fn_linspace (F := Ideal) (constant S_ .f32 0x00000000#32) (constant S_ .f32 0x40C90FDB#32) (entry k h) = ((k * theta : ℝ) : EReal) := by
  unfold fn_linspace
  dsimp only
  by_cases h7 : k < 7
  · rw [concatenate_pair_apply_left (t := S8) (s₁ := S7) (s₂ := S1) 0 _ _ _ (entry k h) rfl
      (fun a => match a with | ⟨0, _⟩ => ⟨k, h7⟩) (fun b => match b with | ⟨0, _⟩ => rfl)]
    show Ideal.ofBits .f32 0x00000000#32 * (Ideal.ofBits .f32 0x3F800000#32
        - Ideal.div (((BitVec.ofNat 32 k).toInt : ℝ) : EReal) (Ideal.ofBits .f32 0x40E00000#32))
      + Ideal.ofBits .f32 0x40C90FDB#32 * Ideal.div (((BitVec.ofNat 32 k).toInt : ℝ) : EReal) (Ideal.ofBits .f32 0x40E00000#32) = _
    rw [toInt_small k (by omega), zero_bits, zero_mul, zero_add, twoPi_bits, seven_bits, Ideal.div_coe (by norm_num), ← EReal.coe_mul,
      ← EReal.coe_mul]
    congr 1
    unfold theta tp
    push_cast
    ring
  · rw [concatenate_pair_apply_right (t := S8) (s₁ := S7) (s₂ := S1) 0 _ _ _ (entry k h) rfl rfl
      (fun a => match a with | ⟨0, _⟩ => ⟨0, Nat.one_pos⟩) (fun b hb => absurd (match b with | ⟨0, _⟩ => rfl) hb)
      (by show 0 + 7 = k; omega)]
    show Ideal.ofBits .f32 0x40C90FDB#32 = _
    rw [twoPi_bits]
    have e : k = 7 := by omega
    subst e
    congr 1
    unfold theta tp
    push_cast
    ring

/-- The phases spread over the columns, read at an index. -/
theorem phase_read (x : FVec Ideal S65536 .f32) (i : S65536x8.Idx) (h1 : S65536.BroadcastsInDim S65536x1 ![0])
    (h2 : S65536x1.BroadcastsInDim S65536x8 ![0, 1]) :
    broadcastInDim S65536x8 ![0, 1] h2 (broadcastInDim S65536x1 ![0] h1 x) i = x (fun a => match a with | ⟨0, _⟩ => i 0) :=
  (broadcastInDim_apply (s := S65536x1) _ h2 _ i (fun a => match a with | ⟨0, _⟩ => i 0 | ⟨1, _⟩ => ⟨0, Nat.one_pos⟩)
    (fun b => match b with | ⟨0, _⟩ => rfl | ⟨1, _⟩ => rfl)).trans
  (broadcastInDim_apply _ h1 x _ _ (fun b => match b with | ⟨0, _⟩ => rfl))

/-- The bin angles spread over the rows, read at an index. -/
theorem angle_read (x : FVec Ideal S8 .f32) (i : S65536x8.Idx) (hk : (i 1).val < 8) (h1 : S8.BroadcastsInDim S1x8 ![1])
    (h2 : S1x8.BroadcastsInDim S65536x8 ![0, 1]) :
    broadcastInDim S65536x8 ![0, 1] h2 (broadcastInDim S1x8 ![1] h1 x) i = x (entry (i 1).val hk) :=
  (broadcastInDim_apply (s := S1x8) _ h2 _ i (fun a => match a with | ⟨0, _⟩ => ⟨0, Nat.one_pos⟩ | ⟨1, _⟩ => i 1)
    (fun b => match b with | ⟨0, _⟩ => rfl | ⟨1, _⟩ => rfl)).trans
  (broadcastInDim_apply _ h1 x _ _ (fun b => match b with | ⟨0, _⟩ => rfl))

/-- The predicate holds everywhere of the phases and of the kernel's weights. -/
theorem near_all (a0 : FVec Ideal S16x65536 .f32) (a1 : IVec S_ 32) (a2 : FVec Ideal S16x524288 .f32) (a3 : FVec Ideal S65536 .f32)
    (a4 : FVec Ideal S65536x8 .f32) (a5 : FVec Ideal S_ .f32) (a6 : FVec Ideal S65536 .f32) (a7 : FVec Ideal S65536x8 .f32)
    (h3 : ∀ i, a3 i = (ph (i 0).val : EReal)) (h7 : ∀ i, a7 i = (weight (ph (i 0).val - ctr) (i 1).val : EReal)) :
    fn (F := Ideal) a0 a1 a2 a3 a4 a5 a6 a7 = fun _ => 1#1 := by
  funext i
  have hi : (i 0).val < 65536 := (i 0).isLt
  have hk : (i 1).val < 8 := (i 1).isLt
  have w := weight_near (ph (i 0).val) (i 1).val hk (Weights.ph_ctr _ hi)
  have e : fn (F := Ideal) a0 a1 a2 a3 a4 a5 a6 a7 i
      = Ideal.cmp .ole (max (a7 i - Ideal.cos (a3 (fun a => match a with | ⟨0, _⟩ => i 0)
            - fn_linspace (F := Ideal) (constant S_ .f32 0x00000000#32) (constant S_ .f32 0x40C90FDB#32) (entry (i 1).val hk)))
          (-(a7 i - Ideal.cos (a3 (fun a => match a with | ⟨0, _⟩ => i 0)
            - fn_linspace (F := Ideal) (constant S_ .f32 0x00000000#32) (constant S_ .f32 0x40C90FDB#32) (entry (i 1).val hk)))))
        (Ideal.ofBits .f32 0x358637BD#32) := by
    unfold fn
    dsimp only
    rw [← phase_read a3 i Facts.bcast_S65536_S65536x1_0 Facts.bcast_S65536x1_S65536x8_0_1,
      ← angle_read (fn_linspace (F := Ideal) (constant S_ .f32 0x00000000#32) (constant S_ .f32 0x40C90FDB#32)) i hk Facts.bcast_S8_S1x8_1
        Facts.bcast_S1x8_S65536x8_0_1]
    rfl
  rw [e, angles, h3, h7, tol_bits]
  show Ideal.cmp .ole (max ((weight (ph (i 0).val - ctr) (i 1).val : EReal) - Ideal.cos (((ph (i 0).val : ℝ) : EReal) - (((i 1).val * theta : ℝ) : EReal)))
    (-((weight (ph (i 0).val - ctr) (i 1).val : EReal) - Ideal.cos (((ph (i 0).val : ℝ) : EReal) - (((i 1).val * theta : ℝ) : EReal))))) _ = 1#1
  rw [← EReal.coe_sub]
  show Ideal.cmp .ole (max ((weight (ph (i 0).val - ctr) (i 1).val : EReal) - ((Real.cos (ph (i 0).val - (i 1).val * theta) : ℝ) : EReal))
    (-((weight (ph (i 0).val - ctr) (i 1).val : EReal) - ((Real.cos (ph (i 0).val - (i 1).val * theta) : ℝ) : EReal)))) _ = 1#1
  rw [← EReal.coe_sub, ← EReal.coe_neg]
  simp only [Ideal.cmp]
  rw [decide_eq_true]
  · rfl
  · rw [abs_le] at w
    refine max_le ?_ ?_ <;> rw [EReal.coe_le_coe_iff] <;> linarith

/-- The claim: at the end of every run the weights are within 1e-6 of the cosine, and the arguments are unchanged. -/
theorem holds : Cert.holds_KernelIdeal_weights_near := by
  intro m ρ _
  refine (θ_run Cert.KernelIdeal.defs _ _).mono (fun _ h c => ⟨(h c).2.2.2.2.2.2.1, (h c).2.2.2.2.2.2.2, ?_⟩) (Results.run m ρ)
  exact near_all _ _ _ _ _ _ _ _ (fun i => (congrFun (h c).2.1 i).trans (Results.res_v7 m c i))
    (fun i => (congrFun (h c).2.2.2.2.2.1 i).trans (Weights.res_v10 m c i))

end Cert.Near

end
-- ==== Proof.lean ====
module

public import proofs.«01_k».proof.Defs
public import proofs.«01_k».proof.Proof.Claims
public import proofs.«01_k».proof.Proof.Near
public import proofs.«01_k».proof.Proof.Gen.Post_weights_near
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_all_but_weights
public import Idealize.ShloMosaic.Adequacy
public import Idealize.ShloMosaic.Init

@[expose] public section

noncomputable section

namespace Cert.Proof

/-- Everything the certificate claims. -/
theorem claim : Cert.Claim := ⟨Cert.Kernel.Gen.facts, Cert.KernelIdeal.Gen.facts, Cert.ReferenceIdeal.Gen.facts,
  Cert.Post_weights_near.Gen.facts, Cert.On_all_but_weights.Gen.facts, Cert.Claims.frame_kernel, Cert.Claims.frame_ideal, Cert.Claims.frame_reference,
  Cert.Claims.preserves, Cert.Claims.algebraic, Cert.Near.holds⟩

end Cert.Proof

end
